-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_given [hPre_given : Cert.Pre_given.Facts] (m : (ℓ : Loc Cert.KernelIdeal.nD Cert.KernelIdeal.τ Cert.KernelIdeal.sig) → Buf (Elt Ideal) ℓ) : Prop :=
  ∀ c : Dev Cert.KernelIdeal.nD,
    (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_given [hPre_given : Cert.Pre_given.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_given [hKernelIdeal : Cert.KernelIdeal.Facts] [hPre_given : Cert.Pre_given.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_given m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_given [hReferenceIdeal : Cert.ReferenceIdeal.Facts] [hPre_given : Cert.Pre_given.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_given m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "w1" .f32 0x3D2B0000#32 ((11184811 / 268435456 : ℝ) : EReal)
  ∧ IdealRules.named_const.Statement Cert.KernelIdeal.κ "w7" .f32 0x3E950000#32 ((9786709 / 33554432 : ℝ) : EReal)
  ∧ IdealRules.named_const.Statement Cert.KernelIdeal.κ "neg_inf" .f32 0xF149F2CA#32 ⊥

def algebraic_KernelIdeal_ReferenceIdeal_pre_given [hKernelIdeal : Cert.KernelIdeal.Facts] [hReferenceIdeal : Cert.ReferenceIdeal.Facts] [hPre_given : Cert.Pre_given.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_given m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1201) = v0 c
          ∧ r.2.mem ((c.tc : Thread Cert.ReferenceIdeal.nD Cert.ReferenceIdeal.τ).loc Cert.ReferenceIdeal.main_v1203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_given : Cert.Pre_given.Facts),
    quiescent_Kernel (hKernel := hKernel)
    ∧ quiescent_KernelIdeal (hKernelIdeal := hKernelIdeal)
    ∧ quiescent_KernelIdeal_pre_given (hKernelIdeal := hKernelIdeal) (hPre_given := hPre_given)
    ∧ quiescent_ReferenceIdeal (hReferenceIdeal := hReferenceIdeal)
    ∧ quiescent_ReferenceIdeal_pre_given (hReferenceIdeal := hReferenceIdeal) (hPre_given := hPre_given)
    ∧ preserves_Kernel_KernelIdeal
    ∧ algebraic_KernelIdeal_ReferenceIdeal_pre_given (hKernelIdeal := hKernelIdeal) (hReferenceIdeal := hReferenceIdeal) (hPre_given := hPre_given)
-- ==== Pre_given.lean ====
abbrev S16x1x1024x1024 : Shape := ⟨4, ![16, 1, 1024, 1024]⟩
abbrev S1x1x7x7 : Shape := ⟨4, ![1, 1, 7, 7]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  reducesTo_S1x1x7x7_S_d0_1_2_3 : S1x1x7x7.ReducesTo [0, 1, 2, 3] S_

variable [Facts]

noncomputable abbrev lit0 : Fin 49 → BitVec 32 := fun
  | 0 => 0x00000000#32 | 1 => 0x00000000#32 | 2 => 0x3D2AAAAB#32 | 3 => 0x3D2AAAAB#32 | 4 => 0x3D2AAAAB#32 | 5 => 0x00000000#32 | 6 => 0x00000000#32 | 7 => 0x00000000#32
  | 8 => 0x3D2AAAAB#32 | 9 => 0x3E000000#32 | 10 => 0x3E000000#32 | 11 => 0x3E000000#32 | 12 => 0x3D2AAAAB#32 | 13 => 0x00000000#32 | 14 => 0x3D2AAAAB#32 | 15 => 0x3E000000#32
  | 16 => 0x00000000#32 | 17 => 0xBE955555#32 | 18 => 0x00000000#32 | 19 => 0x3E000000#32 | 20 => 0x00000000#32 | 21 => 0x3D2AAAAB#32 | 22 => 0x3E000000#32 | 23 => 0xBE955555#32
  | 24 => 0xBF800000#32 | 25 => 0xBE955555#32 | 26 => 0x3E000000#32 | 27 => 0x3D2AAAAB#32 | 28 => 0x3D2AAAAB#32 | 29 => 0x3E000000#32 | 30 => 0x00000000#32 | 31 => 0xBE955555#32
  | 32 => 0x00000000#32 | 33 => 0x3E000000#32 | 34 => 0x00000000#32 | 35 => 0x00000000#32 | 36 => 0x3D2AAAAB#32 | 37 => 0x3E000000#32 | 38 => 0x3E000000#32 | 39 => 0x3E000000#32
  | 40 => 0x3D2AAAAB#32 | 41 => 0x00000000#32 | 42 => 0x00000000#32 | 43 => 0x00000000#32 | 44 => 0x3D2AAAAB#32 | 45 => 0x3D2AAAAB#32 | 46 => 0x3D2AAAAB#32 | 47 => 0x00000000#32
  | 48 => 0x00000000#32
  | _ => 0#32

def fn {F : FTy → Type} [FloatOps F] (main_arg0 : FVec F S16x1x1024x1024 .f32) (main_arg1 : FVec F S1x1x7x7 .f32) : IVec S_ 1 :=
  let main_cst : FVec F S1x1x7x7 .f32 := fun i => FloatOps.ofBits .f32 (lit0 (S1x1x7x7.rowMajor i))
  let main_v0 : FVec F S16x1x1024x1024 .f32 := Host.absf main_arg0
  let main_cst_0 : FVec F S_ .f32 := constant S_ .f32 0x7F800000#32
  let main_v1 : FVec F S16x1x1024x1024 .f32 := broadcastInDim S16x1x1024x1024 ![] bcast_S_S16x1x1024x1024 main_cst_0
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : IVec S1x1x7x7 1 := cmpf .oeq main_arg1 main_cst
  let main_c_1 : IVec S_ 1 := constantI S_ 1 1#1
  let main_v5 : IVec S_ 1 := (fun x v => Host.reduce IntOp.andi x v reducesTo_S1x1x7x7_S_d0_1_2_3 h_S_) main_v4 main_c_1
  let main_v6 : IVec S_ 1 := andi main_v3 main_v5
  main_v6
-- ==== Kernel.lean ====
abbrev S16x1x1024x1024 : Shape := ⟨4, ![16, 1, 1024, 1024]⟩
abbrev S1x1x7x7 : Shape := ⟨4, ![1, 1, 7, 7]⟩
abbrev S1x1x1024x1024 : Shape := ⟨4, ![1, 1, 1024, 1024]⟩
abbrev S24x1024 : Shape := ⟨2, ![24, 1024]⟩
abbrev S1024x1024 : Shape := ⟨2, ![1024, 1024]⟩
abbrev S1072x1024 : Shape := ⟨2, ![1072, 1024]⟩
abbrev S1072x3 : Shape := ⟨2, ![1072, 3]⟩
abbrev S1072x1021 : Shape := ⟨2, ![1072, 1021]⟩
abbrev S1072x1 : Shape := ⟨2, ![1072, 1]⟩
abbrev S1072x1023 : Shape := ⟨2, ![1072, 1023]⟩
abbrev S1072x2 : Shape := ⟨2, ![1072, 2]⟩
abbrev S1072x1022 : Shape := ⟨2, ![1072, 1022]⟩
abbrev S3x1024 : Shape := ⟨2, ![3, 1024]⟩
abbrev S1069x1024 : Shape := ⟨2, ![1069, 1024]⟩
abbrev S2x1024 : Shape := ⟨2, ![2, 1024]⟩
abbrev S1070x1024 : Shape := ⟨2, ![1070, 1024]⟩
abbrev S1x1024 : Shape := ⟨2, ![1, 1024]⟩
abbrev S1071x1024 : Shape := ⟨2, ![1071, 1024]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16x1x1024x1024, .f32⟩
  | .hbm, ⟨1, _⟩ => ⟨S1x1x7x7, .f32⟩
  | .hbm, ⟨2, _⟩ => ⟨S16x1x1024x1024, .f32⟩
  | .hbm, ⟨3, _⟩ => ⟨S16x1x1024x1024, .i8⟩
  | .hbm, ⟨4, _⟩ => ⟨S_, .i8⟩
  | .hbm, ⟨5, _⟩ => ⟨S16x1x1024x1024, .i8⟩
  | .hbm, ⟨6, _⟩ => ⟨S16x1x1024x1024, .i1⟩
  | .hbm, ⟨7, _⟩ => ⟨S16x1x1024x1024, .i1⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .i8⟩
  | .local _ .vmem, ⟨5, _⟩ => ⟨S1x1x1024x1024, .i8⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "neg_inf" => some ⊥
  | "w1" => some ((11184811 / 268435456 : ℝ) : EReal)
  | "w7" => some ((9786709 / 33554432 : ℝ) : EReal)
  | _ => none
-- ==== ReferenceIdeal.lean ====
abbrev S16x1x1024x1024 : Shape := ⟨4, ![16, 1, 1024, 1024]⟩
abbrev S1x1x7x7 : Shape := ⟨4, ![1, 1, 7, 7]⟩
abbrev S_ : Shape := ⟨0, ![]⟩
abbrev S16x1x1030x1030 : Shape := ⟨4, ![16, 1, 1030, 1030]⟩
abbrev S1x1x1x1 : Shape := ⟨4, ![1, 1, 1, 1]⟩

abbrev nBuf : Space → Nat
  | .hbm => 1227
  | .vmem => 0
  | .smem => 0
  | _ => 0

abbrev hbmTy0_0 (i : Nat) : BufTy := match i % 128 with
  | 0 => ⟨S16x1x1024x1024, .f32⟩
  | 1 => ⟨S1x1x7x7, .f32⟩
  | 2 => ⟨S_, .i32⟩
  | 3 => ⟨S_, .f32⟩
  | 4 => ⟨S16x1x1030x1030, .f32⟩
  | 5 => ⟨S_, .f32⟩
  | 6 => ⟨S16x1x1024x1024, .f32⟩
  | 7 => ⟨S1x1x1x1, .f32⟩
  | 8 => ⟨S_, .f32⟩
  | 9 => ⟨S16x1x1024x1024, .f32⟩
  | 10 => ⟨S16x1x1024x1024, .f32⟩
  | 11 => ⟨S16x1x1024x1024, .f32⟩
  | 12 => ⟨S16x1x1024x1024, .f32⟩
  | 13 => ⟨S1x1x1x1, .f32⟩
  | 14 => ⟨S_, .f32⟩
  | 15 => ⟨S16x1x1024x1024, .f32⟩
  | 16 => ⟨S16x1x1024x1024, .f32⟩
  | 17 => ⟨S16x1x1024x1024, .f32⟩
  | 18 => ⟨S16x1x1024x1024, .f32⟩
  | 19 => ⟨S1x1x1x1, .f32⟩
  | 20 => ⟨S_, .f32⟩
  | 21 => ⟨S16x1x1024x1024, .f32⟩
  | 22 => ⟨S16x1x1024x1024, .f32⟩
  | 23 => ⟨S16x1x1024x1024, .f32⟩
  | 24 => ⟨S16x1x1024x1024, .f32⟩
  | 25 => ⟨S1x1x1x1, .f32⟩
  | 26 => ⟨S_, .f32⟩
  | 27 => ⟨S16x1x1024x1024, .f32⟩
  | 28 => ⟨S16x1x1024x1024, .f32⟩
  | 29 => ⟨S16x1x1024x1024, .f32⟩
  | 30 => ⟨S16x1x1024x1024, .f32⟩
  | 31 => ⟨S1x1x1x1, .f32⟩
  | 32 => ⟨S_, .f32⟩
  | 33 => ⟨S16x1x1024x1024, .f32⟩
  | 34 => ⟨S16x1x1024x1024, .f32⟩
  | 35 => ⟨S16x1x1024x1024, .f32⟩
  | 36 => ⟨S16x1x1024x1024, .f32⟩
  | 37 => ⟨S1x1x1x1, .f32⟩
  | 38 => ⟨S_, .f32⟩
  | 39 => ⟨S16x1x1024x1024, .f32⟩
  | 40 => ⟨S16x1x1024x1024, .f32⟩
  | 41 => ⟨S16x1x1024x1024, .f32⟩
  | 42 => ⟨S16x1x1024x1024, .f32⟩
  | 43 => ⟨S1x1x1x1, .f32⟩
  | 44 => ⟨S_, .f32⟩
  | 45 => ⟨S16x1x1024x1024, .f32⟩
  | 46 => ⟨S16x1x1024x1024, .f32⟩
  | 47 => ⟨S16x1x1024x1024, .f32⟩
  | 48 => ⟨S16x1x1024x1024, .f32⟩
  | 49 => ⟨S1x1x1x1, .f32⟩
  | 50 => ⟨S_, .f32⟩
  | 51 => ⟨S16x1x1024x1024, .f32⟩
  | 52 => ⟨S16x1x1024x1024, .f32⟩
  | 53 => ⟨S16x1x1024x1024, .f32⟩
  | 54 => ⟨S16x1x1024x1024, .f32⟩
  | 55 => ⟨S1x1x1x1, .f32⟩
  | 56 => ⟨S_, .f32⟩
  | 57 => ⟨S16x1x1024x1024, .f32⟩
  | 58 => ⟨S16x1x1024x1024, .f32⟩
  | 59 => ⟨S16x1x1024x1024, .f32⟩
  | 60 => ⟨S16x1x1024x1024, .f32⟩
  | 61 => ⟨S1x1x1x1, .f32⟩
  | 62 => ⟨S_, .f32⟩
  | 63 => ⟨S16x1x1024x1024, .f32⟩
  | 64 => ⟨S16x1x1024x1024, .f32⟩
  | 65 => ⟨S16x1x1024x1024, .f32⟩
  | 66 => ⟨S16x1x1024x1024, .f32⟩
  | 67 => ⟨S1x1x1x1, .f32⟩
  | 68 => ⟨S_, .f32⟩
  | 69 => ⟨S16x1x1024x1024, .f32⟩
  | 70 => ⟨S16x1x1024x1024, .f32⟩
  | 71 => ⟨S16x1x1024x1024, .f32⟩
  | 72 => ⟨S16x1x1024x1024, .f32⟩
  | 73 => ⟨S1x1x1x1, .f32⟩
  | 74 => ⟨S_, .f32⟩
  | 75 => ⟨S16x1x1024x1024, .f32⟩
  | 76 => ⟨S16x1x1024x1024, .f32⟩
  | 77 => ⟨S16x1x1024x1024, .f32⟩
  | 78 => ⟨S16x1x1024x1024, .f32⟩
  | 79 => ⟨S1x1x1x1, .f32⟩
  | 80 => ⟨S_, .f32⟩
  | 81 => ⟨S16x1x1024x1024, .f32⟩
  | 82 => ⟨S16x1x1024x1024, .f32⟩
  | 83 => ⟨S16x1x1024x1024, .f32⟩
  | 84 => ⟨S16x1x1024x1024, .f32⟩
  | 85 => ⟨S1x1x1x1, .f32⟩
  | 86 => ⟨S_, .f32⟩
  | 87 => ⟨S16x1x1024x1024, .f32⟩
  | 88 => ⟨S16x1x1024x1024, .f32⟩
  | 89 => ⟨S16x1x1024x1024, .f32⟩
  | 90 => ⟨S16x1x1024x1024, .f32⟩
  | 91 => ⟨S1x1x1x1, .f32⟩
  | 92 => ⟨S_, .f32⟩
  | 93 => ⟨S16x1x1024x1024, .f32⟩
  | 94 => ⟨S16x1x1024x1024, .f32⟩
  | 95 => ⟨S16x1x1024x1024, .f32⟩
  | 96 => ⟨S16x1x1024x1024, .f32⟩
  | 97 => ⟨S1x1x1x1, .f32⟩
  | 98 => ⟨S_, .f32⟩
  | 99 => ⟨S16x1x1024x1024, .f32⟩
  | 100 => ⟨S16x1x1024x1024, .f32⟩
  | 101 => ⟨S16x1x1024x1024, .f32⟩
  | 102 => ⟨S16x1x1024x1024, .f32⟩
  | 103 => ⟨S1x1x1x1, .f32⟩
  | 104 => ⟨S_, .f32⟩
  | 105 => ⟨S16x1x1024x1024, .f32⟩
  | 106 => ⟨S16x1x1024x1024, .f32⟩
  | 107 => ⟨S16x1x1024x1024, .f32⟩
  | 108 => ⟨S16x1x1024x1024, .f32⟩
  | 109 => ⟨S1x1x1x1, .f32⟩
  | 110 => ⟨S_, .f32⟩
  | 111 => ⟨S16x1x1024x1024, .f32⟩
  | 112 => ⟨S16x1x1024x1024, .f32⟩
  | 113 => ⟨S16x1x1024x1024, .f32⟩
  | 114 => ⟨S16x1x1024x1024, .f32⟩
  | 115 => ⟨S1x1x1x1, .f32⟩
  | 116 => ⟨S_, .f32⟩
  | 117 => ⟨S16x1x1024x1024, .f32⟩
  | 118 => ⟨S16x1x1024x1024, .f32⟩
  | 119 => ⟨S16x1x1024x1024, .f32⟩
  | 120 => ⟨S16x1x1024x1024, .f32⟩
  | 121 => ⟨S1x1x1x1, .f32⟩
  | 122 => ⟨S_, .f32⟩
  | 123 => ⟨S16x1x1024x1024, .f32⟩
  | 124 => ⟨S16x1x1024x1024, .f32⟩
  | 125 => ⟨S16x1x1024x1024, .f32⟩
  | 126 => ⟨S16x1x1024x1024, .f32⟩
  | 127 => ⟨S1x1x1x1, .f32⟩
  | _ => ⟨S16x1x1024x1024, .f32⟩

abbrev hbmTy0_1 (i : Nat) : BufTy := match i % 128 with
  | 0 => ⟨S_, .f32⟩
  | 1 => ⟨S16x1x1024x1024, .f32⟩
  | 2 => ⟨S16x1x1024x1024, .f32⟩
  | 3 => ⟨S16x1x1024x1024, .f32⟩
  | 4 => ⟨S16x1x1024x1024, .f32⟩
  | 5 => ⟨S1x1x1x1, .f32⟩
  | 6 => ⟨S_, .f32⟩
  | 7 => ⟨S16x1x1024x1024, .f32⟩
  | 8 => ⟨S16x1x1024x1024, .f32⟩
  | 9 => ⟨S16x1x1024x1024, .f32⟩
  | 10 => ⟨S16x1x1024x1024, .f32⟩
  | 11 => ⟨S1x1x1x1, .f32⟩
  | 12 => ⟨S_, .f32⟩
  | 13 => ⟨S16x1x1024x1024, .f32⟩
  | 14 => ⟨S16x1x1024x1024, .f32⟩
  | 15 => ⟨S16x1x1024x1024, .f32⟩
  | 16 => ⟨S16x1x1024x1024, .f32⟩
  | 17 => ⟨S1x1x1x1, .f32⟩
  | 18 => ⟨S_, .f32⟩
  | 19 => ⟨S16x1x1024x1024, .f32⟩
  | 20 => ⟨S16x1x1024x1024, .f32⟩
  | 21 => ⟨S16x1x1024x1024, .f32⟩
  | 22 => ⟨S16x1x1024x1024, .f32⟩
  | 23 => ⟨S1x1x1x1, .f32⟩
  | 24 => ⟨S_, .f32⟩
  | 25 => ⟨S16x1x1024x1024, .f32⟩
  | 26 => ⟨S16x1x1024x1024, .f32⟩
  | 27 => ⟨S16x1x1024x1024, .f32⟩
  | 28 => ⟨S16x1x1024x1024, .f32⟩
  | 29 => ⟨S1x1x1x1, .f32⟩
  | 30 => ⟨S_, .f32⟩
  | 31 => ⟨S16x1x1024x1024, .f32⟩
  | 32 => ⟨S16x1x1024x1024, .f32⟩
  | 33 => ⟨S16x1x1024x1024, .f32⟩
  | 34 => ⟨S16x1x1024x1024, .f32⟩
  | 35 => ⟨S1x1x1x1, .f32⟩
  | 36 => ⟨S_, .f32⟩
  | 37 => ⟨S16x1x1024x1024, .f32⟩
  | 38 => ⟨S16x1x1024x1024, .f32⟩
  | 39 => ⟨S16x1x1024x1024, .f32⟩
  | 40 => ⟨S16x1x1024x1024, .f32⟩
  | 41 => ⟨S1x1x1x1, .f32⟩
  | 42 => ⟨S_, .f32⟩
  | 43 => ⟨S16x1x1024x1024, .f32⟩
  | 44 => ⟨S16x1x1024x1024, .f32⟩
  | 45 => ⟨S16x1x1024x1024, .f32⟩
  | 46 => ⟨S16x1x1024x1024, .f32⟩
  | 47 => ⟨S1x1x1x1, .f32⟩
  | 48 => ⟨S_, .f32⟩
  | 49 => ⟨S16x1x1024x1024, .f32⟩
  | 50 => ⟨S16x1x1024x1024, .f32⟩
  | 51 => ⟨S16x1x1024x1024, .f32⟩
  | 52 => ⟨S16x1x1024x1024, .f32⟩
  | 53 => ⟨S1x1x1x1, .f32⟩
  | 54 => ⟨S_, .f32⟩
  | 55 => ⟨S16x1x1024x1024, .f32⟩
  | 56 => ⟨S16x1x1024x1024, .f32⟩
  | 57 => ⟨S16x1x1024x1024, .f32⟩
  | 58 => ⟨S16x1x1024x1024, .f32⟩
  | 59 => ⟨S1x1x1x1, .f32⟩
  | 60 => ⟨S_, .f32⟩
  | 61 => ⟨S16x1x1024x1024, .f32⟩
  | 62 => ⟨S16x1x1024x1024, .f32⟩
  | 63 => ⟨S16x1x1024x1024, .f32⟩
  | 64 => ⟨S16x1x1024x1024, .f32⟩
  | 65 => ⟨S1x1x1x1, .f32⟩
  | 66 => ⟨S_, .f32⟩
  | 67 => ⟨S16x1x1024x1024, .f32⟩
  | 68 => ⟨S16x1x1024x1024, .f32⟩
  | 69 => ⟨S16x1x1024x1024, .f32⟩
  | 70 => ⟨S16x1x1024x1024, .f32⟩
  | 71 => ⟨S1x1x1x1, .f32⟩
  | 72 => ⟨S_, .f32⟩
  | 73 => ⟨S16x1x1024x1024, .f32⟩
  | 74 => ⟨S16x1x1024x1024, .f32⟩
  | 75 => ⟨S16x1x1024x1024, .f32⟩
  | 76 => ⟨S16x1x1024x1024, .f32⟩
  | 77 => ⟨S1x1x1x1, .f32⟩
  | 78 => ⟨S_, .f32⟩
  | 79 => ⟨S16x1x1024x1024, .f32⟩
  | 80 => ⟨S16x1x1024x1024, .f32⟩
  | 81 => ⟨S16x1x1024x1024, .f32⟩
  | 82 => ⟨S16x1x1024x1024, .f32⟩
  | 83 => ⟨S1x1x1x1, .f32⟩
  | 84 => ⟨S_, .f32⟩
  | 85 => ⟨S16x1x1024x1024, .f32⟩
  | 86 => ⟨S16x1x1024x1024, .f32⟩
  | 87 => ⟨S16x1x1024x1024, .f32⟩
  | 88 => ⟨S16x1x1024x1024, .f32⟩
  | 89 => ⟨S1x1x1x1, .f32⟩
  | 90 => ⟨S_, .f32⟩
  | 91 => ⟨S16x1x1024x1024, .f32⟩
  | 92 => ⟨S16x1x1024x1024, .f32⟩
  | 93 => ⟨S16x1x1024x1024, .f32⟩
  | 94 => ⟨S16x1x1024x1024, .f32⟩
  | 95 => ⟨S1x1x1x1, .f32⟩
  | 96 => ⟨S_, .f32⟩
  | 97 => ⟨S16x1x1024x1024, .f32⟩
  | 98 => ⟨S16x1x1024x1024, .f32⟩
  | 99 => ⟨S16x1x1024x1024, .f32⟩
  | 100 => ⟨S16x1x1024x1024, .f32⟩
  | 101 => ⟨S1x1x1x1, .f32⟩
  | 102 => ⟨S_, .f32⟩
  | 103 => ⟨S16x1x1024x1024, .f32⟩
  | 104 => ⟨S16x1x1024x1024, .f32⟩
  | 105 => ⟨S16x1x1024x1024, .f32⟩
  | 106 => ⟨S16x1x1024x1024, .f32⟩
  | 107 => ⟨S1x1x1x1, .f32⟩
  | 108 => ⟨S_, .f32⟩
  | 109 => ⟨S16x1x1024x1024, .f32⟩
  | 110 => ⟨S16x1x1024x1024, .f32⟩
  | 111 => ⟨S16x1x1024x1024, .f32⟩
  | 112 => ⟨S16x1x1024x1024, .f32⟩
  | 113 => ⟨S1x1x1x1, .f32⟩
  | 114 => ⟨S_, .f32⟩
  | 115 => ⟨S16x1x1024x1024, .f32⟩
  | 116 => ⟨S16x1x1024x1024, .f32⟩
  | 117 => ⟨S16x1x1024x1024, .f32⟩
  | 118 => ⟨S16x1x1024x1024, .f32⟩
  | 119 => ⟨S1x1x1x1, .f32⟩
  | 120 => ⟨S_, .f32⟩
  | 121 => ⟨S16x1x1024x1024, .f32⟩
  | 122 => ⟨S16x1x1024x1024, .f32⟩
  | 123 => ⟨S16x1x1024x1024, .f32⟩
  | 124 => ⟨S16x1x1024x1024, .f32⟩
  | 125 => ⟨S1x1x1x1, .f32⟩
  | 126 => ⟨S_, .f32⟩
  | 127 => ⟨S16x1x1024x1024, .f32⟩
  | _ => ⟨S16x1x1024x1024, .f32⟩

abbrev hbmTy0_2 (i : Nat) : BufTy := match i % 128 with
  | 0 => ⟨S16x1x1024x1024, .f32⟩
  | 1 => ⟨S16x1x1024x1024, .f32⟩
  | 2 => ⟨S16x1x1024x1024, .f32⟩
  | 3 => ⟨S1x1x1x1, .f32⟩
  | 4 => ⟨S_, .f32⟩
  | 5 => ⟨S16x1x1024x1024, .f32⟩
  | 6 => ⟨S16x1x1024x1024, .f32⟩
  | 7 => ⟨S16x1x1024x1024, .f32⟩
  | 8 => ⟨S16x1x1024x1024, .f32⟩
  | 9 => ⟨S1x1x1x1, .f32⟩
  | 10 => ⟨S_, .f32⟩
  | 11 => ⟨S16x1x1024x1024, .f32⟩
  | 12 => ⟨S16x1x1024x1024, .f32⟩
  | 13 => ⟨S16x1x1024x1024, .f32⟩
  | 14 => ⟨S16x1x1024x1024, .f32⟩
  | 15 => ⟨S1x1x1x1, .f32⟩
  | 16 => ⟨S_, .f32⟩
  | 17 => ⟨S16x1x1024x1024, .f32⟩
  | 18 => ⟨S16x1x1024x1024, .f32⟩
  | 19 => ⟨S16x1x1024x1024, .f32⟩
  | 20 => ⟨S16x1x1024x1024, .f32⟩
  | 21 => ⟨S1x1x1x1, .f32⟩
  | 22 => ⟨S_, .f32⟩
  | 23 => ⟨S16x1x1024x1024, .f32⟩
  | 24 => ⟨S16x1x1024x1024, .f32⟩
  | 25 => ⟨S16x1x1024x1024, .f32⟩
  | 26 => ⟨S16x1x1024x1024, .f32⟩
  | 27 => ⟨S1x1x1x1, .f32⟩
  | 28 => ⟨S_, .f32⟩
  | 29 => ⟨S16x1x1024x1024, .f32⟩
  | 30 => ⟨S16x1x1024x1024, .f32⟩
  | 31 => ⟨S16x1x1024x1024, .f32⟩
  | 32 => ⟨S16x1x1024x1024, .f32⟩
  | 33 => ⟨S1x1x1x1, .f32⟩
  | 34 => ⟨S_, .f32⟩
  | 35 => ⟨S16x1x1024x1024, .f32⟩
  | 36 => ⟨S16x1x1024x1024, .f32⟩
  | 37 => ⟨S16x1x1024x1024, .f32⟩
  | 38 => ⟨S16x1x1024x1024, .f32⟩
  | 39 => ⟨S1x1x1x1, .f32⟩
  | 40 => ⟨S_, .f32⟩
  | 41 => ⟨S16x1x1024x1024, .f32⟩
  | 42 => ⟨S16x1x1024x1024, .f32⟩
  | 43 => ⟨S16x1x1024x1024, .f32⟩
  | 44 => ⟨S16x1x1024x1024, .f32⟩
  | 45 => ⟨S_, .f32⟩
  | 46 => ⟨S_, .f32⟩
  | 47 => ⟨S16x1x1024x1024, .f32⟩
  | 48 => ⟨S_, .i32⟩
  | 49 => ⟨S_, .f32⟩
  | 50 => ⟨S16x1x1030x1030, .f32⟩
  | 51 => ⟨S_, .f32⟩
  | 52 => ⟨S16x1x1024x1024, .f32⟩
  | 53 => ⟨S1x1x1x1, .f32⟩
  | 54 => ⟨S_, .f32⟩
  | 55 => ⟨S16x1x1024x1024, .f32⟩
  | 56 => ⟨S16x1x1024x1024, .f32⟩
  | 57 => ⟨S16x1x1024x1024, .f32⟩
  | 58 => ⟨S16x1x1024x1024, .f32⟩
  | 59 => ⟨S1x1x1x1, .f32⟩
  | 60 => ⟨S_, .f32⟩
  | 61 => ⟨S16x1x1024x1024, .f32⟩
  | 62 => ⟨S16x1x1024x1024, .f32⟩
  | 63 => ⟨S16x1x1024x1024, .f32⟩
  | 64 => ⟨S16x1x1024x1024, .f32⟩
  | 65 => ⟨S1x1x1x1, .f32⟩
  | 66 => ⟨S_, .f32⟩
  | 67 => ⟨S16x1x1024x1024, .f32⟩
  | 68 => ⟨S16x1x1024x1024, .f32⟩
  | 69 => ⟨S16x1x1024x1024, .f32⟩
  | 70 => ⟨S16x1x1024x1024, .f32⟩
  | 71 => ⟨S1x1x1x1, .f32⟩
  | 72 => ⟨S_, .f32⟩
  | 73 => ⟨S16x1x1024x1024, .f32⟩
  | 74 => ⟨S16x1x1024x1024, .f32⟩
  | 75 => ⟨S16x1x1024x1024, .f32⟩
  | 76 => ⟨S16x1x1024x1024, .f32⟩
  | 77 => ⟨S1x1x1x1, .f32⟩
  | 78 => ⟨S_, .f32⟩
  | 79 => ⟨S16x1x1024x1024, .f32⟩
  | 80 => ⟨S16x1x1024x1024, .f32⟩
  | 81 => ⟨S16x1x1024x1024, .f32⟩
  | 82 => ⟨S16x1x1024x1024, .f32⟩
  | 83 => ⟨S1x1x1x1, .f32⟩
  | 84 => ⟨S_, .f32⟩
  | 85 => ⟨S16x1x1024x1024, .f32⟩
  | 86 => ⟨S16x1x1024x1024, .f32⟩
  | 87 => ⟨S16x1x1024x1024, .f32⟩
  | 88 => ⟨S16x1x1024x1024, .f32⟩
  | 89 => ⟨S1x1x1x1, .f32⟩
  | 90 => ⟨S_, .f32⟩
  | 91 => ⟨S16x1x1024x1024, .f32⟩
  | 92 => ⟨S16x1x1024x1024, .f32⟩
  | 93 => ⟨S16x1x1024x1024, .f32⟩
  | 94 => ⟨S16x1x1024x1024, .f32⟩
  | 95 => ⟨S1x1x1x1, .f32⟩
  | 96 => ⟨S_, .f32⟩
  | 97 => ⟨S16x1x1024x1024, .f32⟩
  | 98 => ⟨S16x1x1024x1024, .f32⟩
  | 99 => ⟨S16x1x1024x1024, .f32⟩
  | 100 => ⟨S16x1x1024x1024, .f32⟩
  | 101 => ⟨S1x1x1x1, .f32⟩
  | 102 => ⟨S_, .f32⟩
  | 103 => ⟨S16x1x1024x1024, .f32⟩
  | 104 => ⟨S16x1x1024x1024, .f32⟩
  | 105 => ⟨S16x1x1024x1024, .f32⟩
  | 106 => ⟨S16x1x1024x1024, .f32⟩
  | 107 => ⟨S1x1x1x1, .f32⟩
  | 108 => ⟨S_, .f32⟩
  | 109 => ⟨S16x1x1024x1024, .f32⟩
  | 110 => ⟨S16x1x1024x1024, .f32⟩
  | 111 => ⟨S16x1x1024x1024, .f32⟩
  | 112 => ⟨S16x1x1024x1024, .f32⟩
  | 113 => ⟨S1x1x1x1, .f32⟩
  | 114 => ⟨S_, .f32⟩
  | 115 => ⟨S16x1x1024x1024, .f32⟩
  | 116 => ⟨S16x1x1024x1024, .f32⟩
  | 117 => ⟨S16x1x1024x1024, .f32⟩
  | 118 => ⟨S16x1x1024x1024, .f32⟩
  | 119 => ⟨S1x1x1x1, .f32⟩
  | 120 => ⟨S_, .f32⟩
  | 121 => ⟨S16x1x1024x1024, .f32⟩
  | 122 => ⟨S16x1x1024x1024, .f32⟩
  | 123 => ⟨S16x1x1024x1024, .f32⟩
  | 124 => ⟨S16x1x1024x1024, .f32⟩
  | 125 => ⟨S1x1x1x1, .f32⟩
  | 126 => ⟨S_, .f32⟩
  | 127 => ⟨S16x1x1024x1024, .f32⟩
  | _ => ⟨S16x1x1024x1024, .f32⟩

abbrev hbmTy0_3 (i : Nat) : BufTy := match i % 128 with
  | 0 => ⟨S16x1x1024x1024, .f32⟩
  | 1 => ⟨S16x1x1024x1024, .f32⟩
  | 2 => ⟨S16x1x1024x1024, .f32⟩
  | 3 => ⟨S1x1x1x1, .f32⟩
  | 4 => ⟨S_, .f32⟩
  | 5 => ⟨S16x1x1024x1024, .f32⟩
  | 6 => ⟨S16x1x1024x1024, .f32⟩
  | 7 => ⟨S16x1x1024x1024, .f32⟩
  | 8 => ⟨S16x1x1024x1024, .f32⟩
  | 9 => ⟨S1x1x1x1, .f32⟩
  | 10 => ⟨S_, .f32⟩
  | 11 => ⟨S16x1x1024x1024, .f32⟩
  | 12 => ⟨S16x1x1024x1024, .f32⟩
  | 13 => ⟨S16x1x1024x1024, .f32⟩
  | 14 => ⟨S16x1x1024x1024, .f32⟩
  | 15 => ⟨S1x1x1x1, .f32⟩
  | 16 => ⟨S_, .f32⟩
  | 17 => ⟨S16x1x1024x1024, .f32⟩
  | 18 => ⟨S16x1x1024x1024, .f32⟩
  | 19 => ⟨S16x1x1024x1024, .f32⟩
  | 20 => ⟨S16x1x1024x1024, .f32⟩
  | 21 => ⟨S1x1x1x1, .f32⟩
  | 22 => ⟨S_, .f32⟩
  | 23 => ⟨S16x1x1024x1024, .f32⟩
  | 24 => ⟨S16x1x1024x1024, .f32⟩
  | 25 => ⟨S16x1x1024x1024, .f32⟩
  | 26 => ⟨S16x1x1024x1024, .f32⟩
  | 27 => ⟨S1x1x1x1, .f32⟩
  | 28 => ⟨S_, .f32⟩
  | 29 => ⟨S16x1x1024x1024, .f32⟩
  | 30 => ⟨S16x1x1024x1024, .f32⟩
  | 31 => ⟨S16x1x1024x1024, .f32⟩
  | 32 => ⟨S16x1x1024x1024, .f32⟩
  | 33 => ⟨S1x1x1x1, .f32⟩
  | 34 => ⟨S_, .f32⟩
  | 35 => ⟨S16x1x1024x1024, .f32⟩
  | 36 => ⟨S16x1x1024x1024, .f32⟩
  | 37 => ⟨S16x1x1024x1024, .f32⟩
  | 38 => ⟨S16x1x1024x1024, .f32⟩
  | 39 => ⟨S1x1x1x1, .f32⟩
  | 40 => ⟨S_, .f32⟩
  | 41 => ⟨S16x1x1024x1024, .f32⟩
  | 42 => ⟨S16x1x1024x1024, .f32⟩
  | 43 => ⟨S16x1x1024x1024, .f32⟩
  | 44 => ⟨S16x1x1024x1024, .f32⟩
  | 45 => ⟨S1x1x1x1, .f32⟩
  | 46 => ⟨S_, .f32⟩
  | 47 => ⟨S16x1x1024x1024, .f32⟩
  | 48 => ⟨S16x1x1024x1024, .f32⟩
  | 49 => ⟨S16x1x1024x1024, .f32⟩
  | 50 => ⟨S16x1x1024x1024, .f32⟩
  | 51 => ⟨S1x1x1x1, .f32⟩
  | 52 => ⟨S_, .f32⟩
  | 53 => ⟨S16x1x1024x1024, .f32⟩
  | 54 => ⟨S16x1x1024x1024, .f32⟩
  | 55 => ⟨S16x1x1024x1024, .f32⟩
  | 56 => ⟨S16x1x1024x1024, .f32⟩
  | 57 => ⟨S1x1x1x1, .f32⟩
  | 58 => ⟨S_, .f32⟩
  | 59 => ⟨S16x1x1024x1024, .f32⟩
  | 60 => ⟨S16x1x1024x1024, .f32⟩
  | 61 => ⟨S16x1x1024x1024, .f32⟩
  | 62 => ⟨S16x1x1024x1024, .f32⟩
  | 63 => ⟨S1x1x1x1, .f32⟩
  | 64 => ⟨S_, .f32⟩
  | 65 => ⟨S16x1x1024x1024, .f32⟩
  | 66 => ⟨S16x1x1024x1024, .f32⟩
  | 67 => ⟨S16x1x1024x1024, .f32⟩
  | 68 => ⟨S16x1x1024x1024, .f32⟩
  | 69 => ⟨S1x1x1x1, .f32⟩
  | 70 => ⟨S_, .f32⟩
  | 71 => ⟨S16x1x1024x1024, .f32⟩
  | 72 => ⟨S16x1x1024x1024, .f32⟩
  | 73 => ⟨S16x1x1024x1024, .f32⟩
  | 74 => ⟨S16x1x1024x1024, .f32⟩
  | 75 => ⟨S1x1x1x1, .f32⟩
  | 76 => ⟨S_, .f32⟩
  | 77 => ⟨S16x1x1024x1024, .f32⟩
  | 78 => ⟨S16x1x1024x1024, .f32⟩
  | 79 => ⟨S16x1x1024x1024, .f32⟩
  | 80 => ⟨S16x1x1024x1024, .f32⟩
  | 81 => ⟨S1x1x1x1, .f32⟩
  | 82 => ⟨S_, .f32⟩
  | 83 => ⟨S16x1x1024x1024, .f32⟩
  | 84 => ⟨S16x1x1024x1024, .f32⟩
  | 85 => ⟨S16x1x1024x1024, .f32⟩
  | 86 => ⟨S16x1x1024x1024, .f32⟩
  | 87 => ⟨S1x1x1x1, .f32⟩
  | 88 => ⟨S_, .f32⟩
  | 89 => ⟨S16x1x1024x1024, .f32⟩
  | 90 => ⟨S16x1x1024x1024, .f32⟩
  | 91 => ⟨S16x1x1024x1024, .f32⟩
  | 92 => ⟨S16x1x1024x1024, .f32⟩
  | 93 => ⟨S1x1x1x1, .f32⟩
  | 94 => ⟨S_, .f32⟩
  | 95 => ⟨S16x1x1024x1024, .f32⟩
  | 96 => ⟨S16x1x1024x1024, .f32⟩
  | 97 => ⟨S16x1x1024x1024, .f32⟩
  | 98 => ⟨S16x1x1024x1024, .f32⟩
  | 99 => ⟨S1x1x1x1, .f32⟩
  | 100 => ⟨S_, .f32⟩
  | 101 => ⟨S16x1x1024x1024, .f32⟩
  | 102 => ⟨S16x1x1024x1024, .f32⟩
  | 103 => ⟨S16x1x1024x1024, .f32⟩
  | 104 => ⟨S16x1x1024x1024, .f32⟩
  | 105 => ⟨S1x1x1x1, .f32⟩
  | 106 => ⟨S_, .f32⟩
  | 107 => ⟨S16x1x1024x1024, .f32⟩
  | 108 => ⟨S16x1x1024x1024, .f32⟩
  | 109 => ⟨S16x1x1024x1024, .f32⟩
  | 110 => ⟨S16x1x1024x1024, .f32⟩
  | 111 => ⟨S1x1x1x1, .f32⟩
  | 112 => ⟨S_, .f32⟩
  | 113 => ⟨S16x1x1024x1024, .f32⟩
  | 114 => ⟨S16x1x1024x1024, .f32⟩
  | 115 => ⟨S16x1x1024x1024, .f32⟩
  | 116 => ⟨S16x1x1024x1024, .f32⟩
  | 117 => ⟨S1x1x1x1, .f32⟩
  | 118 => ⟨S_, .f32⟩
  | 119 => ⟨S16x1x1024x1024, .f32⟩
  | 120 => ⟨S16x1x1024x1024, .f32⟩
  | 121 => ⟨S16x1x1024x1024, .f32⟩
  | 122 => ⟨S16x1x1024x1024, .f32⟩
  | 123 => ⟨S1x1x1x1, .f32⟩
  | 124 => ⟨S_, .f32⟩
  | 125 => ⟨S16x1x1024x1024, .f32⟩
  | 126 => ⟨S16x1x1024x1024, .f32⟩
  | 127 => ⟨S16x1x1024x1024, .f32⟩
  | _ => ⟨S16x1x1024x1024, .f32⟩

abbrev hbmTy0_4 (i : Nat) : BufTy := match i % 128 with
  | 0 => ⟨S16x1x1024x1024, .f32⟩
  | 1 => ⟨S1x1x1x1, .f32⟩
  | 2 => ⟨S_, .f32⟩
  | 3 => ⟨S16x1x1024x1024, .f32⟩
  | 4 => ⟨S16x1x1024x1024, .f32⟩
  | 5 => ⟨S16x1x1024x1024, .f32⟩
  | 6 => ⟨S16x1x1024x1024, .f32⟩
  | 7 => ⟨S1x1x1x1, .f32⟩
  | 8 => ⟨S_, .f32⟩
  | 9 => ⟨S16x1x1024x1024, .f32⟩
  | 10 => ⟨S16x1x1024x1024, .f32⟩
  | 11 => ⟨S16x1x1024x1024, .f32⟩
  | 12 => ⟨S16x1x1024x1024, .f32⟩
  | 13 => ⟨S1x1x1x1, .f32⟩
  | 14 => ⟨S_, .f32⟩
  | 15 => ⟨S16x1x1024x1024, .f32⟩
  | 16 => ⟨S16x1x1024x1024, .f32⟩
  | 17 => ⟨S16x1x1024x1024, .f32⟩
  | 18 => ⟨S16x1x1024x1024, .f32⟩
  | 19 => ⟨S1x1x1x1, .f32⟩
  | 20 => ⟨S_, .f32⟩
  | 21 => ⟨S16x1x1024x1024, .f32⟩
  | 22 => ⟨S16x1x1024x1024, .f32⟩
  | 23 => ⟨S16x1x1024x1024, .f32⟩
  | 24 => ⟨S16x1x1024x1024, .f32⟩
  | 25 => ⟨S1x1x1x1, .f32⟩
  | 26 => ⟨S_, .f32⟩
  | 27 => ⟨S16x1x1024x1024, .f32⟩
  | 28 => ⟨S16x1x1024x1024, .f32⟩
  | 29 => ⟨S16x1x1024x1024, .f32⟩
  | 30 => ⟨S16x1x1024x1024, .f32⟩
  | 31 => ⟨S1x1x1x1, .f32⟩
  | 32 => ⟨S_, .f32⟩
  | 33 => ⟨S16x1x1024x1024, .f32⟩
  | 34 => ⟨S16x1x1024x1024, .f32⟩
  | 35 => ⟨S16x1x1024x1024, .f32⟩
  | 36 => ⟨S16x1x1024x1024, .f32⟩
  | 37 => ⟨S1x1x1x1, .f32⟩
  | 38 => ⟨S_, .f32⟩
  | 39 => ⟨S16x1x1024x1024, .f32⟩
  | 40 => ⟨S16x1x1024x1024, .f32⟩
  | 41 => ⟨S16x1x1024x1024, .f32⟩
  | 42 => ⟨S16x1x1024x1024, .f32⟩
  | 43 => ⟨S1x1x1x1, .f32⟩
  | 44 => ⟨S_, .f32⟩
  | 45 => ⟨S16x1x1024x1024, .f32⟩
  | 46 => ⟨S16x1x1024x1024, .f32⟩
  | 47 => ⟨S16x1x1024x1024, .f32⟩
  | 48 => ⟨S16x1x1024x1024, .f32⟩
  | 49 => ⟨S1x1x1x1, .f32⟩
  | 50 => ⟨S_, .f32⟩
  | 51 => ⟨S16x1x1024x1024, .f32⟩
  | 52 => ⟨S16x1x1024x1024, .f32⟩
  | 53 => ⟨S16x1x1024x1024, .f32⟩
  | 54 => ⟨S16x1x1024x1024, .f32⟩
  | 55 => ⟨S1x1x1x1, .f32⟩
  | 56 => ⟨S_, .f32⟩
  | 57 => ⟨S16x1x1024x1024, .f32⟩
  | 58 => ⟨S16x1x1024x1024, .f32⟩
  | 59 => ⟨S16x1x1024x1024, .f32⟩
  | 60 => ⟨S16x1x1024x1024, .f32⟩
  | 61 => ⟨S1x1x1x1, .f32⟩
  | 62 => ⟨S_, .f32⟩
  | 63 => ⟨S16x1x1024x1024, .f32⟩
  | 64 => ⟨S16x1x1024x1024, .f32⟩
  | 65 => ⟨S16x1x1024x1024, .f32⟩
  | 66 => ⟨S16x1x1024x1024, .f32⟩
  | 67 => ⟨S1x1x1x1, .f32⟩
  | 68 => ⟨S_, .f32⟩
  | 69 => ⟨S16x1x1024x1024, .f32⟩
  | 70 => ⟨S16x1x1024x1024, .f32⟩
  | 71 => ⟨S16x1x1024x1024, .f32⟩
  | 72 => ⟨S16x1x1024x1024, .f32⟩
  | 73 => ⟨S1x1x1x1, .f32⟩
  | 74 => ⟨S_, .f32⟩
  | 75 => ⟨S16x1x1024x1024, .f32⟩
  | 76 => ⟨S16x1x1024x1024, .f32⟩
  | 77 => ⟨S16x1x1024x1024, .f32⟩
  | 78 => ⟨S16x1x1024x1024, .f32⟩
  | 79 => ⟨S1x1x1x1, .f32⟩
  | 80 => ⟨S_, .f32⟩
  | 81 => ⟨S16x1x1024x1024, .f32⟩
  | 82 => ⟨S16x1x1024x1024, .f32⟩
  | 83 => ⟨S16x1x1024x1024, .f32⟩
  | 84 => ⟨S16x1x1024x1024, .f32⟩
  | 85 => ⟨S1x1x1x1, .f32⟩
  | 86 => ⟨S_, .f32⟩
  | 87 => ⟨S16x1x1024x1024, .f32⟩
  | 88 => ⟨S16x1x1024x1024, .f32⟩
  | 89 => ⟨S16x1x1024x1024, .f32⟩
  | 90 => ⟨S16x1x1024x1024, .f32⟩
  | 91 => ⟨S_, .f32⟩
  | 92 => ⟨S_, .f32⟩
  | 93 => ⟨S16x1x1024x1024, .f32⟩
  | 94 => ⟨S_, .i32⟩
  | 95 => ⟨S_, .f32⟩
  | 96 => ⟨S16x1x1030x1030, .f32⟩
  | 97 => ⟨S_, .f32⟩
  | 98 => ⟨S16x1x1024x1024, .f32⟩
  | 99 => ⟨S1x1x1x1, .f32⟩
  | 100 => ⟨S_, .f32⟩
  | 101 => ⟨S16x1x1024x1024, .f32⟩
  | 102 => ⟨S16x1x1024x1024, .f32⟩
  | 103 => ⟨S16x1x1024x1024, .f32⟩
  | 104 => ⟨S16x1x1024x1024, .f32⟩
  | 105 => ⟨S1x1x1x1, .f32⟩
  | 106 => ⟨S_, .f32⟩
  | 107 => ⟨S16x1x1024x1024, .f32⟩
  | 108 => ⟨S16x1x1024x1024, .f32⟩
  | 109 => ⟨S16x1x1024x1024, .f32⟩
  | 110 => ⟨S16x1x1024x1024, .f32⟩
  | 111 => ⟨S1x1x1x1, .f32⟩
  | 112 => ⟨S_, .f32⟩
  | 113 => ⟨S16x1x1024x1024, .f32⟩
  | 114 => ⟨S16x1x1024x1024, .f32⟩
  | 115 => ⟨S16x1x1024x1024, .f32⟩
  | 116 => ⟨S16x1x1024x1024, .f32⟩
  | 117 => ⟨S1x1x1x1, .f32⟩
  | 118 => ⟨S_, .f32⟩
  | 119 => ⟨S16x1x1024x1024, .f32⟩
  | 120 => ⟨S16x1x1024x1024, .f32⟩
  | 121 => ⟨S16x1x1024x1024, .f32⟩
  | 122 => ⟨S16x1x1024x1024, .f32⟩
  | 123 => ⟨S1x1x1x1, .f32⟩
  | 124 => ⟨S_, .f32⟩
  | 125 => ⟨S16x1x1024x1024, .f32⟩
  | 126 => ⟨S16x1x1024x1024, .f32⟩
  | 127 => ⟨S16x1x1024x1024, .f32⟩
  | _ => ⟨S16x1x1024x1024, .f32⟩

abbrev hbmTy0_5 (i : Nat) : BufTy := match i % 128 with
  | 0 => ⟨S16x1x1024x1024, .f32⟩
  | 1 => ⟨S1x1x1x1, .f32⟩
  | 2 => ⟨S_, .f32⟩
  | 3 => ⟨S16x1x1024x1024, .f32⟩
  | 4 => ⟨S16x1x1024x1024, .f32⟩
  | 5 => ⟨S16x1x1024x1024, .f32⟩
  | 6 => ⟨S16x1x1024x1024, .f32⟩
  | 7 => ⟨S1x1x1x1, .f32⟩
  | 8 => ⟨S_, .f32⟩
  | 9 => ⟨S16x1x1024x1024, .f32⟩
  | 10 => ⟨S16x1x1024x1024, .f32⟩
  | 11 => ⟨S16x1x1024x1024, .f32⟩
  | 12 => ⟨S16x1x1024x1024, .f32⟩
  | 13 => ⟨S1x1x1x1, .f32⟩
  | 14 => ⟨S_, .f32⟩
  | 15 => ⟨S16x1x1024x1024, .f32⟩
  | 16 => ⟨S16x1x1024x1024, .f32⟩
  | 17 => ⟨S16x1x1024x1024, .f32⟩
  | 18 => ⟨S16x1x1024x1024, .f32⟩
  | 19 => ⟨S1x1x1x1, .f32⟩
  | 20 => ⟨S_, .f32⟩
  | 21 => ⟨S16x1x1024x1024, .f32⟩
  | 22 => ⟨S16x1x1024x1024, .f32⟩
  | 23 => ⟨S16x1x1024x1024, .f32⟩
  | 24 => ⟨S16x1x1024x1024, .f32⟩
  | 25 => ⟨S1x1x1x1, .f32⟩
  | 26 => ⟨S_, .f32⟩
  | 27 => ⟨S16x1x1024x1024, .f32⟩
  | 28 => ⟨S16x1x1024x1024, .f32⟩
  | 29 => ⟨S16x1x1024x1024, .f32⟩
  | 30 => ⟨S16x1x1024x1024, .f32⟩
  | 31 => ⟨S1x1x1x1, .f32⟩
  | 32 => ⟨S_, .f32⟩
  | 33 => ⟨S16x1x1024x1024, .f32⟩
  | 34 => ⟨S16x1x1024x1024, .f32⟩
  | 35 => ⟨S16x1x1024x1024, .f32⟩
  | 36 => ⟨S16x1x1024x1024, .f32⟩
  | 37 => ⟨S1x1x1x1, .f32⟩
  | 38 => ⟨S_, .f32⟩
  | 39 => ⟨S16x1x1024x1024, .f32⟩
  | 40 => ⟨S16x1x1024x1024, .f32⟩
  | 41 => ⟨S16x1x1024x1024, .f32⟩
  | 42 => ⟨S16x1x1024x1024, .f32⟩
  | 43 => ⟨S1x1x1x1, .f32⟩
  | 44 => ⟨S_, .f32⟩
  | 45 => ⟨S16x1x1024x1024, .f32⟩
  | 46 => ⟨S16x1x1024x1024, .f32⟩
  | 47 => ⟨S16x1x1024x1024, .f32⟩
  | 48 => ⟨S16x1x1024x1024, .f32⟩
  | 49 => ⟨S1x1x1x1, .f32⟩
  | 50 => ⟨S_, .f32⟩
  | 51 => ⟨S16x1x1024x1024, .f32⟩
  | 52 => ⟨S16x1x1024x1024, .f32⟩
  | 53 => ⟨S16x1x1024x1024, .f32⟩
  | 54 => ⟨S16x1x1024x1024, .f32⟩
  | 55 => ⟨S1x1x1x1, .f32⟩
  | 56 => ⟨S_, .f32⟩
  | 57 => ⟨S16x1x1024x1024, .f32⟩
  | 58 => ⟨S16x1x1024x1024, .f32⟩
  | 59 => ⟨S16x1x1024x1024, .f32⟩
  | 60 => ⟨S16x1x1024x1024, .f32⟩
  | 61 => ⟨S1x1x1x1, .f32⟩
  | 62 => ⟨S_, .f32⟩
  | 63 => ⟨S16x1x1024x1024, .f32⟩
  | 64 => ⟨S16x1x1024x1024, .f32⟩
  | 65 => ⟨S16x1x1024x1024, .f32⟩
  | 66 => ⟨S16x1x1024x1024, .f32⟩
  | 67 => ⟨S1x1x1x1, .f32⟩
  | 68 => ⟨S_, .f32⟩
  | 69 => ⟨S16x1x1024x1024, .f32⟩
  | 70 => ⟨S16x1x1024x1024, .f32⟩
  | 71 => ⟨S16x1x1024x1024, .f32⟩
  | 72 => ⟨S16x1x1024x1024, .f32⟩
  | 73 => ⟨S1x1x1x1, .f32⟩
  | 74 => ⟨S_, .f32⟩
  | 75 => ⟨S16x1x1024x1024, .f32⟩
  | 76 => ⟨S16x1x1024x1024, .f32⟩
  | 77 => ⟨S16x1x1024x1024, .f32⟩
  | 78 => ⟨S16x1x1024x1024, .f32⟩
  | 79 => ⟨S1x1x1x1, .f32⟩
  | 80 => ⟨S_, .f32⟩
  | 81 => ⟨S16x1x1024x1024, .f32⟩
  | 82 => ⟨S16x1x1024x1024, .f32⟩
  | 83 => ⟨S16x1x1024x1024, .f32⟩
  | 84 => ⟨S16x1x1024x1024, .f32⟩
  | 85 => ⟨S1x1x1x1, .f32⟩
  | 86 => ⟨S_, .f32⟩
  | 87 => ⟨S16x1x1024x1024, .f32⟩
  | 88 => ⟨S16x1x1024x1024, .f32⟩
  | 89 => ⟨S16x1x1024x1024, .f32⟩
  | 90 => ⟨S16x1x1024x1024, .f32⟩
  | 91 => ⟨S1x1x1x1, .f32⟩
  | 92 => ⟨S_, .f32⟩
  | 93 => ⟨S16x1x1024x1024, .f32⟩
  | 94 => ⟨S16x1x1024x1024, .f32⟩
  | 95 => ⟨S16x1x1024x1024, .f32⟩
  | 96 => ⟨S16x1x1024x1024, .f32⟩
  | 97 => ⟨S1x1x1x1, .f32⟩
  | 98 => ⟨S_, .f32⟩
  | 99 => ⟨S16x1x1024x1024, .f32⟩
  | 100 => ⟨S16x1x1024x1024, .f32⟩
  | 101 => ⟨S16x1x1024x1024, .f32⟩
  | 102 => ⟨S16x1x1024x1024, .f32⟩
  | 103 => ⟨S1x1x1x1, .f32⟩
  | 104 => ⟨S_, .f32⟩
  | 105 => ⟨S16x1x1024x1024, .f32⟩
  | 106 => ⟨S16x1x1024x1024, .f32⟩
  | 107 => ⟨S16x1x1024x1024, .f32⟩
  | 108 => ⟨S16x1x1024x1024, .f32⟩
  | 109 => ⟨S1x1x1x1, .f32⟩
  | 110 => ⟨S_, .f32⟩
  | 111 => ⟨S16x1x1024x1024, .f32⟩
  | 112 => ⟨S16x1x1024x1024, .f32⟩
  | 113 => ⟨S16x1x1024x1024, .f32⟩
  | 114 => ⟨S16x1x1024x1024, .f32⟩
  | 115 => ⟨S1x1x1x1, .f32⟩
  | 116 => ⟨S_, .f32⟩
  | 117 => ⟨S16x1x1024x1024, .f32⟩
  | 118 => ⟨S16x1x1024x1024, .f32⟩
  | 119 => ⟨S16x1x1024x1024, .f32⟩
  | 120 => ⟨S16x1x1024x1024, .f32⟩
  | 121 => ⟨S1x1x1x1, .f32⟩
  | 122 => ⟨S_, .f32⟩
  | 123 => ⟨S16x1x1024x1024, .f32⟩
  | 124 => ⟨S16x1x1024x1024, .f32⟩
  | 125 => ⟨S16x1x1024x1024, .f32⟩
  | 126 => ⟨S16x1x1024x1024, .f32⟩
  | 127 => ⟨S1x1x1x1, .f32⟩
  | _ => ⟨S16x1x1024x1024, .f32⟩

abbrev hbmTy0_6 (i : Nat) : BufTy := match i % 128 with
  | 0 => ⟨S_, .f32⟩
  | 1 => ⟨S16x1x1024x1024, .f32⟩
  | 2 => ⟨S16x1x1024x1024, .f32⟩
  | 3 => ⟨S16x1x1024x1024, .f32⟩
  | 4 => ⟨S16x1x1024x1024, .f32⟩
  | 5 => ⟨S1x1x1x1, .f32⟩
  | 6 => ⟨S_, .f32⟩
  | 7 => ⟨S16x1x1024x1024, .f32⟩
  | 8 => ⟨S16x1x1024x1024, .f32⟩
  | 9 => ⟨S16x1x1024x1024, .f32⟩
  | 10 => ⟨S16x1x1024x1024, .f32⟩
  | 11 => ⟨S1x1x1x1, .f32⟩
  | 12 => ⟨S_, .f32⟩
  | 13 => ⟨S16x1x1024x1024, .f32⟩
  | 14 => ⟨S16x1x1024x1024, .f32⟩
  | 15 => ⟨S16x1x1024x1024, .f32⟩
  | 16 => ⟨S16x1x1024x1024, .f32⟩
  | 17 => ⟨S1x1x1x1, .f32⟩
  | 18 => ⟨S_, .f32⟩
  | 19 => ⟨S16x1x1024x1024, .f32⟩
  | 20 => ⟨S16x1x1024x1024, .f32⟩
  | 21 => ⟨S16x1x1024x1024, .f32⟩
  | 22 => ⟨S16x1x1024x1024, .f32⟩
  | 23 => ⟨S1x1x1x1, .f32⟩
  | 24 => ⟨S_, .f32⟩
  | 25 => ⟨S16x1x1024x1024, .f32⟩
  | 26 => ⟨S16x1x1024x1024, .f32⟩
  | 27 => ⟨S16x1x1024x1024, .f32⟩
  | 28 => ⟨S16x1x1024x1024, .f32⟩
  | 29 => ⟨S1x1x1x1, .f32⟩
  | 30 => ⟨S_, .f32⟩
  | 31 => ⟨S16x1x1024x1024, .f32⟩
  | 32 => ⟨S16x1x1024x1024, .f32⟩
  | 33 => ⟨S16x1x1024x1024, .f32⟩
  | 34 => ⟨S16x1x1024x1024, .f32⟩
  | 35 => ⟨S1x1x1x1, .f32⟩
  | 36 => ⟨S_, .f32⟩
  | 37 => ⟨S16x1x1024x1024, .f32⟩
  | 38 => ⟨S16x1x1024x1024, .f32⟩
  | 39 => ⟨S16x1x1024x1024, .f32⟩
  | 40 => ⟨S16x1x1024x1024, .f32⟩
  | 41 => ⟨S1x1x1x1, .f32⟩
  | 42 => ⟨S_, .f32⟩
  | 43 => ⟨S16x1x1024x1024, .f32⟩
  | 44 => ⟨S16x1x1024x1024, .f32⟩
  | 45 => ⟨S16x1x1024x1024, .f32⟩
  | 46 => ⟨S16x1x1024x1024, .f32⟩
  | 47 => ⟨S1x1x1x1, .f32⟩
  | 48 => ⟨S_, .f32⟩
  | 49 => ⟨S16x1x1024x1024, .f32⟩
  | 50 => ⟨S16x1x1024x1024, .f32⟩
  | 51 => ⟨S16x1x1024x1024, .f32⟩
  | 52 => ⟨S16x1x1024x1024, .f32⟩
  | 53 => ⟨S1x1x1x1, .f32⟩
  | 54 => ⟨S_, .f32⟩
  | 55 => ⟨S16x1x1024x1024, .f32⟩
  | 56 => ⟨S16x1x1024x1024, .f32⟩
  | 57 => ⟨S16x1x1024x1024, .f32⟩
  | 58 => ⟨S16x1x1024x1024, .f32⟩
  | 59 => ⟨S1x1x1x1, .f32⟩
  | 60 => ⟨S_, .f32⟩
  | 61 => ⟨S16x1x1024x1024, .f32⟩
  | 62 => ⟨S16x1x1024x1024, .f32⟩
  | 63 => ⟨S16x1x1024x1024, .f32⟩
  | 64 => ⟨S16x1x1024x1024, .f32⟩
  | 65 => ⟨S1x1x1x1, .f32⟩
  | 66 => ⟨S_, .f32⟩
  | 67 => ⟨S16x1x1024x1024, .f32⟩
  | 68 => ⟨S16x1x1024x1024, .f32⟩
  | 69 => ⟨S16x1x1024x1024, .f32⟩
  | 70 => ⟨S16x1x1024x1024, .f32⟩
  | 71 => ⟨S1x1x1x1, .f32⟩
  | 72 => ⟨S_, .f32⟩
  | 73 => ⟨S16x1x1024x1024, .f32⟩
  | 74 => ⟨S16x1x1024x1024, .f32⟩
  | 75 => ⟨S16x1x1024x1024, .f32⟩
  | 76 => ⟨S16x1x1024x1024, .f32⟩
  | 77 => ⟨S1x1x1x1, .f32⟩
  | 78 => ⟨S_, .f32⟩
  | 79 => ⟨S16x1x1024x1024, .f32⟩
  | 80 => ⟨S16x1x1024x1024, .f32⟩
  | 81 => ⟨S16x1x1024x1024, .f32⟩
  | 82 => ⟨S16x1x1024x1024, .f32⟩
  | 83 => ⟨S1x1x1x1, .f32⟩
  | 84 => ⟨S_, .f32⟩
  | 85 => ⟨S16x1x1024x1024, .f32⟩
  | 86 => ⟨S16x1x1024x1024, .f32⟩
  | 87 => ⟨S16x1x1024x1024, .f32⟩
  | 88 => ⟨S16x1x1024x1024, .f32⟩
  | 89 => ⟨S1x1x1x1, .f32⟩
  | 90 => ⟨S_, .f32⟩
  | 91 => ⟨S16x1x1024x1024, .f32⟩
  | 92 => ⟨S16x1x1024x1024, .f32⟩
  | 93 => ⟨S16x1x1024x1024, .f32⟩
  | 94 => ⟨S16x1x1024x1024, .f32⟩
  | 95 => ⟨S1x1x1x1, .f32⟩
  | 96 => ⟨S_, .f32⟩
  | 97 => ⟨S16x1x1024x1024, .f32⟩
  | 98 => ⟨S16x1x1024x1024, .f32⟩
  | 99 => ⟨S16x1x1024x1024, .f32⟩
  | 100 => ⟨S16x1x1024x1024, .f32⟩
  | 101 => ⟨S1x1x1x1, .f32⟩
  | 102 => ⟨S_, .f32⟩
  | 103 => ⟨S16x1x1024x1024, .f32⟩
  | 104 => ⟨S16x1x1024x1024, .f32⟩
  | 105 => ⟨S16x1x1024x1024, .f32⟩
  | 106 => ⟨S16x1x1024x1024, .f32⟩
  | 107 => ⟨S1x1x1x1, .f32⟩
  | 108 => ⟨S_, .f32⟩
  | 109 => ⟨S16x1x1024x1024, .f32⟩
  | 110 => ⟨S16x1x1024x1024, .f32⟩
  | 111 => ⟨S16x1x1024x1024, .f32⟩
  | 112 => ⟨S16x1x1024x1024, .f32⟩
  | 113 => ⟨S1x1x1x1, .f32⟩
  | 114 => ⟨S_, .f32⟩
  | 115 => ⟨S16x1x1024x1024, .f32⟩
  | 116 => ⟨S16x1x1024x1024, .f32⟩
  | 117 => ⟨S16x1x1024x1024, .f32⟩
  | 118 => ⟨S16x1x1024x1024, .f32⟩
  | 119 => ⟨S1x1x1x1, .f32⟩
  | 120 => ⟨S_, .f32⟩
  | 121 => ⟨S16x1x1024x1024, .f32⟩
  | 122 => ⟨S16x1x1024x1024, .f32⟩
  | 123 => ⟨S16x1x1024x1024, .f32⟩
  | 124 => ⟨S16x1x1024x1024, .f32⟩
  | 125 => ⟨S1x1x1x1, .f32⟩
  | 126 => ⟨S_, .f32⟩
  | 127 => ⟨S16x1x1024x1024, .f32⟩
  | _ => ⟨S16x1x1024x1024, .f32⟩

abbrev hbmTy0_7 (i : Nat) : BufTy := match i % 128 with
  | 0 => ⟨S16x1x1024x1024, .f32⟩
  | 1 => ⟨S16x1x1024x1024, .f32⟩
  | 2 => ⟨S16x1x1024x1024, .f32⟩
  | 3 => ⟨S1x1x1x1, .f32⟩
  | 4 => ⟨S_, .f32⟩
  | 5 => ⟨S16x1x1024x1024, .f32⟩
  | 6 => ⟨S16x1x1024x1024, .f32⟩
  | 7 => ⟨S16x1x1024x1024, .f32⟩
  | 8 => ⟨S16x1x1024x1024, .f32⟩
  | 9 => ⟨S_, .f32⟩
  | 10 => ⟨S_, .f32⟩
  | 11 => ⟨S16x1x1024x1024, .f32⟩
  | 12 => ⟨S_, .i32⟩
  | 13 => ⟨S_, .f32⟩
  | 14 => ⟨S16x1x1030x1030, .f32⟩
  | 15 => ⟨S_, .f32⟩
  | 16 => ⟨S16x1x1024x1024, .f32⟩
  | 17 => ⟨S1x1x1x1, .f32⟩
  | 18 => ⟨S_, .f32⟩
  | 19 => ⟨S16x1x1024x1024, .f32⟩
  | 20 => ⟨S16x1x1024x1024, .f32⟩
  | 21 => ⟨S16x1x1024x1024, .f32⟩
  | 22 => ⟨S16x1x1024x1024, .f32⟩
  | 23 => ⟨S1x1x1x1, .f32⟩
  | 24 => ⟨S_, .f32⟩
  | 25 => ⟨S16x1x1024x1024, .f32⟩
  | 26 => ⟨S16x1x1024x1024, .f32⟩
  | 27 => ⟨S16x1x1024x1024, .f32⟩
  | 28 => ⟨S16x1x1024x1024, .f32⟩
  | 29 => ⟨S1x1x1x1, .f32⟩
  | 30 => ⟨S_, .f32⟩
  | 31 => ⟨S16x1x1024x1024, .f32⟩
  | 32 => ⟨S16x1x1024x1024, .f32⟩
  | 33 => ⟨S16x1x1024x1024, .f32⟩
  | 34 => ⟨S16x1x1024x1024, .f32⟩
  | 35 => ⟨S1x1x1x1, .f32⟩
  | 36 => ⟨S_, .f32⟩
  | 37 => ⟨S16x1x1024x1024, .f32⟩
  | 38 => ⟨S16x1x1024x1024, .f32⟩
  | 39 => ⟨S16x1x1024x1024, .f32⟩
  | 40 => ⟨S16x1x1024x1024, .f32⟩
  | 41 => ⟨S1x1x1x1, .f32⟩
  | 42 => ⟨S_, .f32⟩
  | 43 => ⟨S16x1x1024x1024, .f32⟩
  | 44 => ⟨S16x1x1024x1024, .f32⟩
  | 45 => ⟨S16x1x1024x1024, .f32⟩
  | 46 => ⟨S16x1x1024x1024, .f32⟩
  | 47 => ⟨S1x1x1x1, .f32⟩
  | 48 => ⟨S_, .f32⟩
  | 49 => ⟨S16x1x1024x1024, .f32⟩
  | 50 => ⟨S16x1x1024x1024, .f32⟩
  | 51 => ⟨S16x1x1024x1024, .f32⟩
  | 52 => ⟨S16x1x1024x1024, .f32⟩
  | 53 => ⟨S1x1x1x1, .f32⟩
  | 54 => ⟨S_, .f32⟩
  | 55 => ⟨S16x1x1024x1024, .f32⟩
  | 56 => ⟨S16x1x1024x1024, .f32⟩
  | 57 => ⟨S16x1x1024x1024, .f32⟩
  | 58 => ⟨S16x1x1024x1024, .f32⟩
  | 59 => ⟨S1x1x1x1, .f32⟩
  | 60 => ⟨S_, .f32⟩
  | 61 => ⟨S16x1x1024x1024, .f32⟩
  | 62 => ⟨S16x1x1024x1024, .f32⟩
  | 63 => ⟨S16x1x1024x1024, .f32⟩
  | 64 => ⟨S16x1x1024x1024, .f32⟩
  | 65 => ⟨S1x1x1x1, .f32⟩
  | 66 => ⟨S_, .f32⟩
  | 67 => ⟨S16x1x1024x1024, .f32⟩
  | 68 => ⟨S16x1x1024x1024, .f32⟩
  | 69 => ⟨S16x1x1024x1024, .f32⟩
  | 70 => ⟨S16x1x1024x1024, .f32⟩
  | 71 => ⟨S1x1x1x1, .f32⟩
  | 72 => ⟨S_, .f32⟩
  | 73 => ⟨S16x1x1024x1024, .f32⟩
  | 74 => ⟨S16x1x1024x1024, .f32⟩
  | 75 => ⟨S16x1x1024x1024, .f32⟩
  | 76 => ⟨S16x1x1024x1024, .f32⟩
  | 77 => ⟨S1x1x1x1, .f32⟩
  | 78 => ⟨S_, .f32⟩
  | 79 => ⟨S16x1x1024x1024, .f32⟩
  | 80 => ⟨S16x1x1024x1024, .f32⟩
  | 81 => ⟨S16x1x1024x1024, .f32⟩
  | 82 => ⟨S16x1x1024x1024, .f32⟩
  | 83 => ⟨S1x1x1x1, .f32⟩
  | 84 => ⟨S_, .f32⟩
  | 85 => ⟨S16x1x1024x1024, .f32⟩
  | 86 => ⟨S16x1x1024x1024, .f32⟩
  | 87 => ⟨S16x1x1024x1024, .f32⟩
  | 88 => ⟨S16x1x1024x1024, .f32⟩
  | 89 => ⟨S1x1x1x1, .f32⟩
  | 90 => ⟨S_, .f32⟩
  | 91 => ⟨S16x1x1024x1024, .f32⟩
  | 92 => ⟨S16x1x1024x1024, .f32⟩
  | 93 => ⟨S16x1x1024x1024, .f32⟩
  | 94 => ⟨S16x1x1024x1024, .f32⟩
  | 95 => ⟨S1x1x1x1, .f32⟩
  | 96 => ⟨S_, .f32⟩
  | 97 => ⟨S16x1x1024x1024, .f32⟩
  | 98 => ⟨S16x1x1024x1024, .f32⟩
  | 99 => ⟨S16x1x1024x1024, .f32⟩
  | 100 => ⟨S16x1x1024x1024, .f32⟩
  | 101 => ⟨S1x1x1x1, .f32⟩
  | 102 => ⟨S_, .f32⟩
  | 103 => ⟨S16x1x1024x1024, .f32⟩
  | 104 => ⟨S16x1x1024x1024, .f32⟩
  | 105 => ⟨S16x1x1024x1024, .f32⟩
  | 106 => ⟨S16x1x1024x1024, .f32⟩
  | 107 => ⟨S1x1x1x1, .f32⟩
  | 108 => ⟨S_, .f32⟩
  | 109 => ⟨S16x1x1024x1024, .f32⟩
  | 110 => ⟨S16x1x1024x1024, .f32⟩
  | 111 => ⟨S16x1x1024x1024, .f32⟩
  | 112 => ⟨S16x1x1024x1024, .f32⟩
  | 113 => ⟨S1x1x1x1, .f32⟩
  | 114 => ⟨S_, .f32⟩
  | 115 => ⟨S16x1x1024x1024, .f32⟩
  | 116 => ⟨S16x1x1024x1024, .f32⟩
  | 117 => ⟨S16x1x1024x1024, .f32⟩
  | 118 => ⟨S16x1x1024x1024, .f32⟩
  | 119 => ⟨S1x1x1x1, .f32⟩
  | 120 => ⟨S_, .f32⟩
  | 121 => ⟨S16x1x1024x1024, .f32⟩
  | 122 => ⟨S16x1x1024x1024, .f32⟩
  | 123 => ⟨S16x1x1024x1024, .f32⟩
  | 124 => ⟨S16x1x1024x1024, .f32⟩
  | 125 => ⟨S1x1x1x1, .f32⟩
  | 126 => ⟨S_, .f32⟩
  | 127 => ⟨S16x1x1024x1024, .f32⟩
  | _ => ⟨S16x1x1024x1024, .f32⟩

abbrev hbmTy0_8 (i : Nat) : BufTy := match i % 128 with
  | 0 => ⟨S16x1x1024x1024, .f32⟩
  | 1 => ⟨S16x1x1024x1024, .f32⟩
  | 2 => ⟨S16x1x1024x1024, .f32⟩
  | 3 => ⟨S1x1x1x1, .f32⟩
  | 4 => ⟨S_, .f32⟩
  | 5 => ⟨S16x1x1024x1024, .f32⟩
  | 6 => ⟨S16x1x1024x1024, .f32⟩
  | 7 => ⟨S16x1x1024x1024, .f32⟩
  | 8 => ⟨S16x1x1024x1024, .f32⟩
  | 9 => ⟨S1x1x1x1, .f32⟩
  | 10 => ⟨S_, .f32⟩
  | 11 => ⟨S16x1x1024x1024, .f32⟩
  | 12 => ⟨S16x1x1024x1024, .f32⟩
  | 13 => ⟨S16x1x1024x1024, .f32⟩
  | 14 => ⟨S16x1x1024x1024, .f32⟩
  | 15 => ⟨S1x1x1x1, .f32⟩
  | 16 => ⟨S_, .f32⟩
  | 17 => ⟨S16x1x1024x1024, .f32⟩
  | 18 => ⟨S16x1x1024x1024, .f32⟩
  | 19 => ⟨S16x1x1024x1024, .f32⟩
  | 20 => ⟨S16x1x1024x1024, .f32⟩
  | 21 => ⟨S1x1x1x1, .f32⟩
  | 22 => ⟨S_, .f32⟩
  | 23 => ⟨S16x1x1024x1024, .f32⟩
  | 24 => ⟨S16x1x1024x1024, .f32⟩
  | 25 => ⟨S16x1x1024x1024, .f32⟩
  | 26 => ⟨S16x1x1024x1024, .f32⟩
  | 27 => ⟨S1x1x1x1, .f32⟩
  | 28 => ⟨S_, .f32⟩
  | 29 => ⟨S16x1x1024x1024, .f32⟩
  | 30 => ⟨S16x1x1024x1024, .f32⟩
  | 31 => ⟨S16x1x1024x1024, .f32⟩
  | 32 => ⟨S16x1x1024x1024, .f32⟩
  | 33 => ⟨S1x1x1x1, .f32⟩
  | 34 => ⟨S_, .f32⟩
  | 35 => ⟨S16x1x1024x1024, .f32⟩
  | 36 => ⟨S16x1x1024x1024, .f32⟩
  | 37 => ⟨S16x1x1024x1024, .f32⟩
  | 38 => ⟨S16x1x1024x1024, .f32⟩
  | 39 => ⟨S1x1x1x1, .f32⟩
  | 40 => ⟨S_, .f32⟩
  | 41 => ⟨S16x1x1024x1024, .f32⟩
  | 42 => ⟨S16x1x1024x1024, .f32⟩
  | 43 => ⟨S16x1x1024x1024, .f32⟩
  | 44 => ⟨S16x1x1024x1024, .f32⟩
  | 45 => ⟨S1x1x1x1, .f32⟩
  | 46 => ⟨S_, .f32⟩
  | 47 => ⟨S16x1x1024x1024, .f32⟩
  | 48 => ⟨S16x1x1024x1024, .f32⟩
  | 49 => ⟨S16x1x1024x1024, .f32⟩
  | 50 => ⟨S16x1x1024x1024, .f32⟩
  | 51 => ⟨S1x1x1x1, .f32⟩
  | 52 => ⟨S_, .f32⟩
  | 53 => ⟨S16x1x1024x1024, .f32⟩
  | 54 => ⟨S16x1x1024x1024, .f32⟩
  | 55 => ⟨S16x1x1024x1024, .f32⟩
  | 56 => ⟨S16x1x1024x1024, .f32⟩
  | 57 => ⟨S1x1x1x1, .f32⟩
  | 58 => ⟨S_, .f32⟩
  | 59 => ⟨S16x1x1024x1024, .f32⟩
  | 60 => ⟨S16x1x1024x1024, .f32⟩
  | 61 => ⟨S16x1x1024x1024, .f32⟩
  | 62 => ⟨S16x1x1024x1024, .f32⟩
  | 63 => ⟨S1x1x1x1, .f32⟩
  | 64 => ⟨S_, .f32⟩
  | 65 => ⟨S16x1x1024x1024, .f32⟩
  | 66 => ⟨S16x1x1024x1024, .f32⟩
  | 67 => ⟨S16x1x1024x1024, .f32⟩
  | 68 => ⟨S16x1x1024x1024, .f32⟩
  | 69 => ⟨S1x1x1x1, .f32⟩
  | 70 => ⟨S_, .f32⟩
  | 71 => ⟨S16x1x1024x1024, .f32⟩
  | 72 => ⟨S16x1x1024x1024, .f32⟩
  | 73 => ⟨S16x1x1024x1024, .f32⟩
  | 74 => ⟨S16x1x1024x1024, .f32⟩
  | 75 => ⟨S1x1x1x1, .f32⟩
  | 76 => ⟨S_, .f32⟩
  | 77 => ⟨S16x1x1024x1024, .f32⟩
  | 78 => ⟨S16x1x1024x1024, .f32⟩
  | 79 => ⟨S16x1x1024x1024, .f32⟩
  | 80 => ⟨S16x1x1024x1024, .f32⟩
  | 81 => ⟨S1x1x1x1, .f32⟩
  | 82 => ⟨S_, .f32⟩
  | 83 => ⟨S16x1x1024x1024, .f32⟩
  | 84 => ⟨S16x1x1024x1024, .f32⟩
  | 85 => ⟨S16x1x1024x1024, .f32⟩
  | 86 => ⟨S16x1x1024x1024, .f32⟩
  | 87 => ⟨S1x1x1x1, .f32⟩
  | 88 => ⟨S_, .f32⟩
  | 89 => ⟨S16x1x1024x1024, .f32⟩
  | 90 => ⟨S16x1x1024x1024, .f32⟩
  | 91 => ⟨S16x1x1024x1024, .f32⟩
  | 92 => ⟨S16x1x1024x1024, .f32⟩
  | 93 => ⟨S1x1x1x1, .f32⟩
  | 94 => ⟨S_, .f32⟩
  | 95 => ⟨S16x1x1024x1024, .f32⟩
  | 96 => ⟨S16x1x1024x1024, .f32⟩
  | 97 => ⟨S16x1x1024x1024, .f32⟩
  | 98 => ⟨S16x1x1024x1024, .f32⟩
  | 99 => ⟨S1x1x1x1, .f32⟩
  | 100 => ⟨S_, .f32⟩
  | 101 => ⟨S16x1x1024x1024, .f32⟩
  | 102 => ⟨S16x1x1024x1024, .f32⟩
  | 103 => ⟨S16x1x1024x1024, .f32⟩
  | 104 => ⟨S16x1x1024x1024, .f32⟩
  | 105 => ⟨S1x1x1x1, .f32⟩
  | 106 => ⟨S_, .f32⟩
  | 107 => ⟨S16x1x1024x1024, .f32⟩
  | 108 => ⟨S16x1x1024x1024, .f32⟩
  | 109 => ⟨S16x1x1024x1024, .f32⟩
  | 110 => ⟨S16x1x1024x1024, .f32⟩
  | 111 => ⟨S1x1x1x1, .f32⟩
  | 112 => ⟨S_, .f32⟩
  | 113 => ⟨S16x1x1024x1024, .f32⟩
  | 114 => ⟨S16x1x1024x1024, .f32⟩
  | 115 => ⟨S16x1x1024x1024, .f32⟩
  | 116 => ⟨S16x1x1024x1024, .f32⟩
  | 117 => ⟨S1x1x1x1, .f32⟩
  | 118 => ⟨S_, .f32⟩
  | 119 => ⟨S16x1x1024x1024, .f32⟩
  | 120 => ⟨S16x1x1024x1024, .f32⟩
  | 121 => ⟨S16x1x1024x1024, .f32⟩
  | 122 => ⟨S16x1x1024x1024, .f32⟩
  | 123 => ⟨S1x1x1x1, .f32⟩
  | 124 => ⟨S_, .f32⟩
  | 125 => ⟨S16x1x1024x1024, .f32⟩
  | 126 => ⟨S16x1x1024x1024, .f32⟩
  | 127 => ⟨S16x1x1024x1024, .f32⟩
  | _ => ⟨S16x1x1024x1024, .f32⟩

abbrev hbmTy0_9 (i : Nat) : BufTy := match i % 128 with
  | 0 => ⟨S16x1x1024x1024, .f32⟩
  | 1 => ⟨S1x1x1x1, .f32⟩
  | 2 => ⟨S_, .f32⟩
  | 3 => ⟨S16x1x1024x1024, .f32⟩
  | 4 => ⟨S16x1x1024x1024, .f32⟩
  | 5 => ⟨S16x1x1024x1024, .f32⟩
  | 6 => ⟨S16x1x1024x1024, .f32⟩
  | 7 => ⟨S1x1x1x1, .f32⟩
  | 8 => ⟨S_, .f32⟩
  | 9 => ⟨S16x1x1024x1024, .f32⟩
  | 10 => ⟨S16x1x1024x1024, .f32⟩
  | 11 => ⟨S16x1x1024x1024, .f32⟩
  | 12 => ⟨S16x1x1024x1024, .f32⟩
  | 13 => ⟨S1x1x1x1, .f32⟩
  | 14 => ⟨S_, .f32⟩
  | 15 => ⟨S16x1x1024x1024, .f32⟩
  | 16 => ⟨S16x1x1024x1024, .f32⟩
  | 17 => ⟨S16x1x1024x1024, .f32⟩
  | 18 => ⟨S16x1x1024x1024, .f32⟩
  | 19 => ⟨S1x1x1x1, .f32⟩
  | 20 => ⟨S_, .f32⟩
  | 21 => ⟨S16x1x1024x1024, .f32⟩
  | 22 => ⟨S16x1x1024x1024, .f32⟩
  | 23 => ⟨S16x1x1024x1024, .f32⟩
  | 24 => ⟨S16x1x1024x1024, .f32⟩
  | 25 => ⟨S1x1x1x1, .f32⟩
  | 26 => ⟨S_, .f32⟩
  | 27 => ⟨S16x1x1024x1024, .f32⟩
  | 28 => ⟨S16x1x1024x1024, .f32⟩
  | 29 => ⟨S16x1x1024x1024, .f32⟩
  | 30 => ⟨S16x1x1024x1024, .f32⟩
  | 31 => ⟨S1x1x1x1, .f32⟩
  | 32 => ⟨S_, .f32⟩
  | 33 => ⟨S16x1x1024x1024, .f32⟩
  | 34 => ⟨S16x1x1024x1024, .f32⟩
  | 35 => ⟨S16x1x1024x1024, .f32⟩
  | 36 => ⟨S16x1x1024x1024, .f32⟩
  | 37 => ⟨S1x1x1x1, .f32⟩
  | 38 => ⟨S_, .f32⟩
  | 39 => ⟨S16x1x1024x1024, .f32⟩
  | 40 => ⟨S16x1x1024x1024, .f32⟩
  | 41 => ⟨S16x1x1024x1024, .f32⟩
  | 42 => ⟨S16x1x1024x1024, .f32⟩
  | 43 => ⟨S1x1x1x1, .f32⟩
  | 44 => ⟨S_, .f32⟩
  | 45 => ⟨S16x1x1024x1024, .f32⟩
  | 46 => ⟨S16x1x1024x1024, .f32⟩
  | 47 => ⟨S16x1x1024x1024, .f32⟩
  | 48 => ⟨S16x1x1024x1024, .f32⟩
  | 49 => ⟨S1x1x1x1, .f32⟩
  | 50 => ⟨S_, .f32⟩
  | 51 => ⟨S16x1x1024x1024, .f32⟩
  | 52 => ⟨S16x1x1024x1024, .f32⟩
  | 53 => ⟨S16x1x1024x1024, .f32⟩
  | 54 => ⟨S16x1x1024x1024, .f32⟩
  | 55 => ⟨S_, .f32⟩
  | 56 => ⟨S_, .f32⟩
  | 57 => ⟨S16x1x1024x1024, .f32⟩
  | 58 => ⟨S_, .f32⟩
  | 59 => ⟨S16x1x1024x1024, .f32⟩
  | 60 => ⟨S16x1x1024x1024, .i1⟩
  | 61 => ⟨S16x1x1024x1024, .f32⟩
  | 62 => ⟨S_, .f32⟩
  | 63 => ⟨S_, .f32⟩
  | 64 => ⟨S16x1x1024x1024, .f32⟩
  | 65 => ⟨S_, .f32⟩
  | 66 => ⟨S16x1x1024x1024, .f32⟩
  | 67 => ⟨S16x1x1024x1024, .f32⟩
  | 68 => ⟨S_, .f32⟩
  | 69 => ⟨S16x1x1024x1024, .f32⟩
  | 70 => ⟨S16x1x1024x1024, .i1⟩
  | 71 => ⟨S16x1x1024x1024, .f32⟩
  | 72 => ⟨S_, .f32⟩
  | 73 => ⟨S16x1x1024x1024, .f32⟩
  | 74 => ⟨S16x1x1024x1024, .i1⟩
  | _ => ⟨S16x1x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16x1x1024x1024, .f32⟩

abbrev bufTy : (tb : Table) → Fin (tcTables nBuf tb) → BufTy
  | .hbm, ⟨i, _⟩ => hbmTy i
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_v275 : Ref sig .tc := ⟨.hbm, 280, rfl⟩
abbrev main_v276 : Ref sig .tc := ⟨.hbm, 281, rfl⟩
abbrev main_v277 : Ref sig .tc := ⟨.hbm, 282, rfl⟩
abbrev main_v278 : Ref sig .tc := ⟨.hbm, 283, rfl⟩
abbrev main_v279 : Ref sig .tc := ⟨.hbm, 284, rfl⟩
abbrev main_v280 : Ref sig .tc := ⟨.hbm, 285, rfl⟩
abbrev main_v281 : Ref sig .tc := ⟨.hbm, 286, rfl⟩
abbrev main_v282 : Ref sig .tc := ⟨.hbm, 287, rfl⟩
abbrev main_v283 : Ref sig .tc := ⟨.hbm, 288, rfl⟩
abbrev main_v284 : Ref sig .tc := ⟨.hbm, 289, rfl⟩
abbrev main_v285 : Ref sig .tc := ⟨.hbm, 290, rfl⟩
abbrev main_v286 : Ref sig .tc := ⟨.hbm, 291, rfl⟩
abbrev main_v287 : Ref sig .tc := ⟨.hbm, 292, rfl⟩
abbrev main_v288 : Ref sig .tc := ⟨.hbm, 293, rfl⟩
abbrev main_v289 : Ref sig .tc := ⟨.hbm, 294, rfl⟩
abbrev main_v290 : Ref sig .tc := ⟨.hbm, 295, rfl⟩
abbrev main_v291 : Ref sig .tc := ⟨.hbm, 296, rfl⟩
abbrev main_v292 : Ref sig .tc := ⟨.hbm, 297, rfl⟩
abbrev main_v293 : Ref sig .tc := ⟨.hbm, 298, rfl⟩
abbrev main_v294 : Ref sig .tc := ⟨.hbm, 299, rfl⟩
abbrev main_v295 : Ref sig .tc := ⟨.hbm, 300, rfl⟩
abbrev main_cst_0 : Ref sig .tc := ⟨.hbm, 301, rfl⟩
abbrev main_v296 : Ref sig .tc := ⟨.hbm, 302, rfl⟩
abbrev main_v297 : Ref sig .tc := ⟨.hbm, 303, rfl⟩
abbrev main_c_1 : Ref sig .tc := ⟨.hbm, 304, rfl⟩
abbrev main_call1_v0 : Ref sig .tc := ⟨.hbm, 305, rfl⟩
abbrev main_v298 : Ref sig .tc := ⟨.hbm, 306, rfl⟩
abbrev main_cst_2 : Ref sig .tc := ⟨.hbm, 307, rfl⟩
abbrev main_v299 : Ref sig .tc := ⟨.hbm, 308, rfl⟩
abbrev main_v300 : Ref sig .tc := ⟨.hbm, 309, rfl⟩
abbrev main_v301 : Ref sig .tc := ⟨.hbm, 310, rfl⟩
abbrev main_v302 : Ref sig .tc := ⟨.hbm, 311, rfl⟩
abbrev main_v303 : Ref sig .tc := ⟨.hbm, 312, rfl⟩
abbrev main_v304 : Ref sig .tc := ⟨.hbm, 313, rfl⟩
abbrev main_v305 : Ref sig .tc := ⟨.hbm, 314, rfl⟩
abbrev main_v306 : Ref sig .tc := ⟨.hbm, 315, rfl⟩
abbrev main_v307 : Ref sig .tc := ⟨.hbm, 316, rfl⟩
abbrev main_v308 : Ref sig .tc := ⟨.hbm, 317, rfl⟩
abbrev main_v309 : Ref sig .tc := ⟨.hbm, 318, rfl⟩
abbrev main_v310 : Ref sig .tc := ⟨.hbm, 319, rfl⟩
abbrev main_v311 : Ref sig .tc := ⟨.hbm, 320, rfl⟩
abbrev main_v312 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_v316 : Ref sig .tc := ⟨.hbm, 325, rfl⟩
abbrev main_v317 : Ref sig .tc := ⟨.hbm, 326, rfl⟩
abbrev main_v318 : Ref sig .tc := ⟨.hbm, 327, rfl⟩
abbrev main_v319 : Ref sig .tc := ⟨.hbm, 328, rfl⟩
abbrev main_v320 : Ref sig .tc := ⟨.hbm, 329, rfl⟩
abbrev main_v321 : Ref sig .tc := ⟨.hbm, 330, rfl⟩
abbrev main_v322 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩
abbrev main_v339 : Ref sig .tc := ⟨.hbm, 348, rfl⟩
abbrev main_v340 : Ref sig .tc := ⟨.hbm, 349, rfl⟩
abbrev main_v341 : Ref sig .tc := ⟨.hbm, 350, rfl⟩
abbrev main_v342 : Ref sig .tc := ⟨.hbm, 351, rfl⟩
abbrev main_v343 : Ref sig .tc := ⟨.hbm, 352, rfl⟩
abbrev main_v344 : Ref sig .tc := ⟨.hbm, 353, rfl⟩
abbrev main_v345 : Ref sig .tc := ⟨.hbm, 354, rfl⟩
abbrev main_v346 : Ref sig .tc := ⟨.hbm, 355, rfl⟩
abbrev main_v347 : Ref sig .tc := ⟨.hbm, 356, rfl⟩
abbrev main_v348 : Ref sig .tc := ⟨.hbm, 357, rfl⟩
abbrev main_v349 : Ref sig .tc := ⟨.hbm, 358, rfl⟩
abbrev main_v350 : Ref sig .tc := ⟨.hbm, 359, rfl⟩
abbrev main_v351 : Ref sig .tc := ⟨.hbm, 360, rfl⟩
abbrev main_v352 : Ref sig .tc := ⟨.hbm, 361, rfl⟩
abbrev main_v353 : Ref sig .tc := ⟨.hbm, 362, rfl⟩
abbrev main_v354 : Ref sig .tc := ⟨.hbm, 363, rfl⟩
abbrev main_v355 : Ref sig .tc := ⟨.hbm, 364, rfl⟩
abbrev main_v356 : Ref sig .tc := ⟨.hbm, 365, rfl⟩
abbrev main_v357 : Ref sig .tc := ⟨.hbm, 366, rfl⟩
abbrev main_v358 : Ref sig .tc := ⟨.hbm, 367, rfl⟩
abbrev main_v359 : Ref sig .tc := ⟨.hbm, 368, rfl⟩
abbrev main_v360 : Ref sig .tc := ⟨.hbm, 369, rfl⟩
abbrev main_v361 : Ref sig .tc := ⟨.hbm, 370, rfl⟩
abbrev main_v362 : Ref sig .tc := ⟨.hbm, 371, rfl⟩
abbrev main_v363 : Ref sig .tc := ⟨.hbm, 372, rfl⟩
abbrev main_v364 : Ref sig .tc := ⟨.hbm, 373, rfl⟩
abbrev main_v365 : Ref sig .tc := ⟨.hbm, 374, rfl⟩
abbrev main_v366 : Ref sig .tc := ⟨.hbm, 375, rfl⟩
abbrev main_v367 : Ref sig .tc := ⟨.hbm, 376, rfl⟩
abbrev main_v368 : Ref sig .tc := ⟨.hbm, 377, rfl⟩
abbrev main_v369 : Ref sig .tc := ⟨.hbm, 378, rfl⟩
abbrev main_v370 : Ref sig .tc := ⟨.hbm, 379, rfl⟩
abbrev main_v371 : Ref sig .tc := ⟨.hbm, 380, rfl⟩
abbrev main_v372 : Ref sig .tc := ⟨.hbm, 381, rfl⟩
abbrev main_v373 : Ref sig .tc := ⟨.hbm, 382, rfl⟩
abbrev main_v374 : Ref sig .tc := ⟨.hbm, 383, rfl⟩
abbrev main_v375 : Ref sig .tc := ⟨.hbm, 384, rfl⟩
abbrev main_v376 : Ref sig .tc := ⟨.hbm, 385, rfl⟩
abbrev main_v377 : Ref sig .tc := ⟨.hbm, 386, rfl⟩
abbrev main_v378 : Ref sig .tc := ⟨.hbm, 387, rfl⟩
abbrev main_v379 : Ref sig .tc := ⟨.hbm, 388, rfl⟩
abbrev main_v380 : Ref sig .tc := ⟨.hbm, 389, rfl⟩
abbrev main_v381 : Ref sig .tc := ⟨.hbm, 390, rfl⟩
abbrev main_v382 : Ref sig .tc := ⟨.hbm, 391, rfl⟩
abbrev main_v383 : Ref sig .tc := ⟨.hbm, 392, rfl⟩
abbrev main_v384 : Ref sig .tc := ⟨.hbm, 393, rfl⟩
abbrev main_v385 : Ref sig .tc := ⟨.hbm, 394, rfl⟩
abbrev main_v386 : Ref sig .tc := ⟨.hbm, 395, rfl⟩
abbrev main_v387 : Ref sig .tc := ⟨.hbm, 396, rfl⟩
abbrev main_v388 : Ref sig .tc := ⟨.hbm, 397, rfl⟩
abbrev main_v389 : Ref sig .tc := ⟨.hbm, 398, rfl⟩
abbrev main_v390 : Ref sig .tc := ⟨.hbm, 399, rfl⟩
abbrev main_v391 : Ref sig .tc := ⟨.hbm, 400, rfl⟩
abbrev main_v392 : Ref sig .tc := ⟨.hbm, 401, rfl⟩
abbrev main_v393 : Ref sig .tc := ⟨.hbm, 402, rfl⟩
abbrev main_v394 : Ref sig .tc := ⟨.hbm, 403, rfl⟩
abbrev main_v395 : Ref sig .tc := ⟨.hbm, 404, rfl⟩
abbrev main_v396 : Ref sig .tc := ⟨.hbm, 405, rfl⟩
abbrev main_v397 : Ref sig .tc := ⟨.hbm, 406, rfl⟩
abbrev main_v398 : Ref sig .tc := ⟨.hbm, 407, rfl⟩
abbrev main_v399 : Ref sig .tc := ⟨.hbm, 408, rfl⟩
abbrev main_v400 : Ref sig .tc := ⟨.hbm, 409, rfl⟩
abbrev main_v401 : Ref sig .tc := ⟨.hbm, 410, rfl⟩
abbrev main_v402 : Ref sig .tc := ⟨.hbm, 411, rfl⟩
abbrev main_v403 : Ref sig .tc := ⟨.hbm, 412, rfl⟩
abbrev main_v404 : Ref sig .tc := ⟨.hbm, 413, rfl⟩
abbrev main_v405 : Ref sig .tc := ⟨.hbm, 414, rfl⟩
abbrev main_v406 : Ref sig .tc := ⟨.hbm, 415, rfl⟩
abbrev main_v407 : Ref sig .tc := ⟨.hbm, 416, rfl⟩
abbrev main_v408 : Ref sig .tc := ⟨.hbm, 417, rfl⟩
abbrev main_v409 : Ref sig .tc := ⟨.hbm, 418, rfl⟩
abbrev main_v410 : Ref sig .tc := ⟨.hbm, 419, rfl⟩
abbrev main_v411 : Ref sig .tc := ⟨.hbm, 420, rfl⟩
abbrev main_v412 : Ref sig .tc := ⟨.hbm, 421, rfl⟩
abbrev main_v413 : Ref sig .tc := ⟨.hbm, 422, rfl⟩
abbrev main_v414 : Ref sig .tc := ⟨.hbm, 423, rfl⟩
abbrev main_v415 : Ref sig .tc := ⟨.hbm, 424, rfl⟩
abbrev main_v416 : Ref sig .tc := ⟨.hbm, 425, rfl⟩
abbrev main_v417 : Ref sig .tc := ⟨.hbm, 426, rfl⟩
abbrev main_v418 : Ref sig .tc := ⟨.hbm, 427, rfl⟩
abbrev main_v419 : Ref sig .tc := ⟨.hbm, 428, rfl⟩
abbrev main_v420 : Ref sig .tc := ⟨.hbm, 429, rfl⟩
abbrev main_v421 : Ref sig .tc := ⟨.hbm, 430, rfl⟩
abbrev main_v422 : Ref sig .tc := ⟨.hbm, 431, rfl⟩
abbrev main_v423 : Ref sig .tc := ⟨.hbm, 432, rfl⟩
abbrev main_v424 : Ref sig .tc := ⟨.hbm, 433, rfl⟩
abbrev main_v425 : Ref sig .tc := ⟨.hbm, 434, rfl⟩
abbrev main_v426 : Ref sig .tc := ⟨.hbm, 435, rfl⟩
abbrev main_v427 : Ref sig .tc := ⟨.hbm, 436, rfl⟩
abbrev main_v428 : Ref sig .tc := ⟨.hbm, 437, rfl⟩
abbrev main_v429 : Ref sig .tc := ⟨.hbm, 438, rfl⟩
abbrev main_v430 : Ref sig .tc := ⟨.hbm, 439, rfl⟩
abbrev main_v431 : Ref sig .tc := ⟨.hbm, 440, rfl⟩
abbrev main_v432 : Ref sig .tc := ⟨.hbm, 441, rfl⟩
abbrev main_v433 : Ref sig .tc := ⟨.hbm, 442, rfl⟩
abbrev main_v434 : Ref sig .tc := ⟨.hbm, 443, rfl⟩
abbrev main_v435 : Ref sig .tc := ⟨.hbm, 444, rfl⟩
abbrev main_v436 : Ref sig .tc := ⟨.hbm, 445, rfl⟩
abbrev main_v437 : Ref sig .tc := ⟨.hbm, 446, rfl⟩
abbrev main_v438 : Ref sig .tc := ⟨.hbm, 447, rfl⟩
abbrev main_v439 : Ref sig .tc := ⟨.hbm, 448, rfl⟩
abbrev main_v440 : Ref sig .tc := ⟨.hbm, 449, rfl⟩
abbrev main_v441 : Ref sig .tc := ⟨.hbm, 450, rfl⟩
abbrev main_v442 : Ref sig .tc := ⟨.hbm, 451, rfl⟩
abbrev main_v443 : Ref sig .tc := ⟨.hbm, 452, rfl⟩
abbrev main_v444 : Ref sig .tc := ⟨.hbm, 453, rfl⟩
abbrev main_v445 : Ref sig .tc := ⟨.hbm, 454, rfl⟩
abbrev main_v446 : Ref sig .tc := ⟨.hbm, 455, rfl⟩
abbrev main_v447 : Ref sig .tc := ⟨.hbm, 456, rfl⟩
abbrev main_v448 : Ref sig .tc := ⟨.hbm, 457, rfl⟩
abbrev main_v449 : Ref sig .tc := ⟨.hbm, 458, rfl⟩
abbrev main_v450 : Ref sig .tc := ⟨.hbm, 459, rfl⟩
abbrev main_v451 : Ref sig .tc := ⟨.hbm, 460, rfl⟩
abbrev main_v452 : Ref sig .tc := ⟨.hbm, 461, rfl⟩
abbrev main_v453 : Ref sig .tc := ⟨.hbm, 462, rfl⟩
abbrev main_v454 : Ref sig .tc := ⟨.hbm, 463, rfl⟩
abbrev main_v455 : Ref sig .tc := ⟨.hbm, 464, rfl⟩
abbrev main_v456 : Ref sig .tc := ⟨.hbm, 465, rfl⟩
abbrev main_v457 : Ref sig .tc := ⟨.hbm, 466, rfl⟩
abbrev main_v458 : Ref sig .tc := ⟨.hbm, 467, rfl⟩
abbrev main_v459 : Ref sig .tc := ⟨.hbm, 468, rfl⟩
abbrev main_v460 : Ref sig .tc := ⟨.hbm, 469, rfl⟩
abbrev main_v461 : Ref sig .tc := ⟨.hbm, 470, rfl⟩
abbrev main_v462 : Ref sig .tc := ⟨.hbm, 471, rfl⟩
abbrev main_v463 : Ref sig .tc := ⟨.hbm, 472, rfl⟩
abbrev main_v464 : Ref sig .tc := ⟨.hbm, 473, rfl⟩
abbrev main_v465 : Ref sig .tc := ⟨.hbm, 474, rfl⟩
abbrev main_v466 : Ref sig .tc := ⟨.hbm, 475, rfl⟩
abbrev main_v467 : Ref sig .tc := ⟨.hbm, 476, rfl⟩
abbrev main_v468 : Ref sig .tc := ⟨.hbm, 477, rfl⟩
abbrev main_v469 : Ref sig .tc := ⟨.hbm, 478, rfl⟩
abbrev main_v470 : Ref sig .tc := ⟨.hbm, 479, rfl⟩
abbrev main_v471 : Ref sig .tc := ⟨.hbm, 480, rfl⟩
abbrev main_v472 : Ref sig .tc := ⟨.hbm, 481, rfl⟩
abbrev main_v473 : Ref sig .tc := ⟨.hbm, 482, rfl⟩
abbrev main_v474 : Ref sig .tc := ⟨.hbm, 483, rfl⟩
abbrev main_v475 : Ref sig .tc := ⟨.hbm, 484, rfl⟩
abbrev main_v476 : Ref sig .tc := ⟨.hbm, 485, rfl⟩
abbrev main_v477 : Ref sig .tc := ⟨.hbm, 486, rfl⟩
abbrev main_v478 : Ref sig .tc := ⟨.hbm, 487, rfl⟩
abbrev main_v479 : Ref sig .tc := ⟨.hbm, 488, rfl⟩
abbrev main_v480 : Ref sig .tc := ⟨.hbm, 489, rfl⟩
abbrev main_v481 : Ref sig .tc := ⟨.hbm, 490, rfl⟩
abbrev main_v482 : Ref sig .tc := ⟨.hbm, 491, rfl⟩
abbrev main_v483 : Ref sig .tc := ⟨.hbm, 492, rfl⟩
abbrev main_v484 : Ref sig .tc := ⟨.hbm, 493, rfl⟩
abbrev main_v485 : Ref sig .tc := ⟨.hbm, 494, rfl⟩
abbrev main_v486 : Ref sig .tc := ⟨.hbm, 495, rfl⟩
abbrev main_v487 : Ref sig .tc := ⟨.hbm, 496, rfl⟩
abbrev main_v488 : Ref sig .tc := ⟨.hbm, 497, rfl⟩
abbrev main_v489 : Ref sig .tc := ⟨.hbm, 498, rfl⟩
abbrev main_v490 : Ref sig .tc := ⟨.hbm, 499, rfl⟩
abbrev main_v491 : Ref sig .tc := ⟨.hbm, 500, rfl⟩
abbrev main_v492 : Ref sig .tc := ⟨.hbm, 501, rfl⟩
abbrev main_v493 : Ref sig .tc := ⟨.hbm, 502, rfl⟩
abbrev main_v494 : Ref sig .tc := ⟨.hbm, 503, rfl⟩
abbrev main_v495 : Ref sig .tc := ⟨.hbm, 504, rfl⟩
abbrev main_v496 : Ref sig .tc := ⟨.hbm, 505, rfl⟩
abbrev main_v497 : Ref sig .tc := ⟨.hbm, 506, rfl⟩
abbrev main_v498 : Ref sig .tc := ⟨.hbm, 507, rfl⟩
abbrev main_v499 : Ref sig .tc := ⟨.hbm, 508, rfl⟩
abbrev main_v500 : Ref sig .tc := ⟨.hbm, 509, rfl⟩
abbrev main_v501 : Ref sig .tc := ⟨.hbm, 510, rfl⟩
abbrev main_v502 : Ref sig .tc := ⟨.hbm, 511, rfl⟩
abbrev main_v503 : Ref sig .tc := ⟨.hbm, 512, rfl⟩
abbrev main_v504 : Ref sig .tc := ⟨.hbm, 513, rfl⟩
abbrev main_v505 : Ref sig .tc := ⟨.hbm, 514, rfl⟩
abbrev main_v506 : Ref sig .tc := ⟨.hbm, 515, rfl⟩
abbrev main_v507 : Ref sig .tc := ⟨.hbm, 516, rfl⟩
abbrev main_v508 : Ref sig .tc := ⟨.hbm, 517, rfl⟩
abbrev main_v509 : Ref sig .tc := ⟨.hbm, 518, rfl⟩
abbrev main_v510 : Ref sig .tc := ⟨.hbm, 519, rfl⟩
abbrev main_v511 : Ref sig .tc := ⟨.hbm, 520, rfl⟩
abbrev main_v512 : Ref sig .tc := ⟨.hbm, 521, rfl⟩
abbrev main_v513 : Ref sig .tc := ⟨.hbm, 522, rfl⟩
abbrev main_v514 : Ref sig .tc := ⟨.hbm, 523, rfl⟩
abbrev main_v515 : Ref sig .tc := ⟨.hbm, 524, rfl⟩
abbrev main_v516 : Ref sig .tc := ⟨.hbm, 525, rfl⟩
abbrev main_v517 : Ref sig .tc := ⟨.hbm, 526, rfl⟩
abbrev main_v518 : Ref sig .tc := ⟨.hbm, 527, rfl⟩
abbrev main_v519 : Ref sig .tc := ⟨.hbm, 528, rfl⟩
abbrev main_v520 : Ref sig .tc := ⟨.hbm, 529, rfl⟩
abbrev main_v521 : Ref sig .tc := ⟨.hbm, 530, rfl⟩
abbrev main_v522 : Ref sig .tc := ⟨.hbm, 531, rfl⟩
abbrev main_v523 : Ref sig .tc := ⟨.hbm, 532, rfl⟩
abbrev main_v524 : Ref sig .tc := ⟨.hbm, 533, rfl⟩
abbrev main_v525 : Ref sig .tc := ⟨.hbm, 534, rfl⟩
abbrev main_v526 : Ref sig .tc := ⟨.hbm, 535, rfl⟩
abbrev main_v527 : Ref sig .tc := ⟨.hbm, 536, rfl⟩
abbrev main_v528 : Ref sig .tc := ⟨.hbm, 537, rfl⟩
abbrev main_v529 : Ref sig .tc := ⟨.hbm, 538, rfl⟩
abbrev main_v530 : Ref sig .tc := ⟨.hbm, 539, rfl⟩
abbrev main_v531 : Ref sig .tc := ⟨.hbm, 540, rfl⟩
abbrev main_v532 : Ref sig .tc := ⟨.hbm, 541, rfl⟩
abbrev main_v533 : Ref sig .tc := ⟨.hbm, 542, rfl⟩
abbrev main_v534 : Ref sig .tc := ⟨.hbm, 543, rfl⟩
abbrev main_v535 : Ref sig .tc := ⟨.hbm, 544, rfl⟩
abbrev main_v536 : Ref sig .tc := ⟨.hbm, 545, rfl⟩
abbrev main_v537 : Ref sig .tc := ⟨.hbm, 546, rfl⟩
abbrev main_v538 : Ref sig .tc := ⟨.hbm, 547, rfl⟩
abbrev main_v539 : Ref sig .tc := ⟨.hbm, 548, rfl⟩
abbrev main_v540 : Ref sig .tc := ⟨.hbm, 549, rfl⟩
abbrev main_v541 : Ref sig .tc := ⟨.hbm, 550, rfl⟩
abbrev main_v542 : Ref sig .tc := ⟨.hbm, 551, rfl⟩
abbrev main_v543 : Ref sig .tc := ⟨.hbm, 552, rfl⟩
abbrev main_v544 : Ref sig .tc := ⟨.hbm, 553, rfl⟩
abbrev main_v545 : Ref sig .tc := ⟨.hbm, 554, rfl⟩
abbrev main_v546 : Ref sig .tc := ⟨.hbm, 555, rfl⟩
abbrev main_v547 : Ref sig .tc := ⟨.hbm, 556, rfl⟩
abbrev main_v548 : Ref sig .tc := ⟨.hbm, 557, rfl⟩
abbrev main_v549 : Ref sig .tc := ⟨.hbm, 558, rfl⟩
abbrev main_v550 : Ref sig .tc := ⟨.hbm, 559, rfl⟩
abbrev main_v551 : Ref sig .tc := ⟨.hbm, 560, rfl⟩
abbrev main_v552 : Ref sig .tc := ⟨.hbm, 561, rfl⟩
abbrev main_v553 : Ref sig .tc := ⟨.hbm, 562, rfl⟩
abbrev main_v554 : Ref sig .tc := ⟨.hbm, 563, rfl⟩
abbrev main_v555 : Ref sig .tc := ⟨.hbm, 564, rfl⟩
abbrev main_v556 : Ref sig .tc := ⟨.hbm, 565, rfl⟩
abbrev main_v557 : Ref sig .tc := ⟨.hbm, 566, rfl⟩
abbrev main_v558 : Ref sig .tc := ⟨.hbm, 567, rfl⟩
abbrev main_v559 : Ref sig .tc := ⟨.hbm, 568, rfl⟩
abbrev main_v560 : Ref sig .tc := ⟨.hbm, 569, rfl⟩
abbrev main_v561 : Ref sig .tc := ⟨.hbm, 570, rfl⟩
abbrev main_v562 : Ref sig .tc := ⟨.hbm, 571, rfl⟩
abbrev main_v563 : Ref sig .tc := ⟨.hbm, 572, rfl⟩
abbrev main_v564 : Ref sig .tc := ⟨.hbm, 573, rfl⟩
abbrev main_v565 : Ref sig .tc := ⟨.hbm, 574, rfl⟩
abbrev main_v566 : Ref sig .tc := ⟨.hbm, 575, rfl⟩
abbrev main_v567 : Ref sig .tc := ⟨.hbm, 576, rfl⟩
abbrev main_v568 : Ref sig .tc := ⟨.hbm, 577, rfl⟩
abbrev main_v569 : Ref sig .tc := ⟨.hbm, 578, rfl⟩
abbrev main_v570 : Ref sig .tc := ⟨.hbm, 579, rfl⟩
abbrev main_v571 : Ref sig .tc := ⟨.hbm, 580, rfl⟩
abbrev main_v572 : Ref sig .tc := ⟨.hbm, 581, rfl⟩
abbrev main_v573 : Ref sig .tc := ⟨.hbm, 582, rfl⟩
abbrev main_v574 : Ref sig .tc := ⟨.hbm, 583, rfl⟩
abbrev main_v575 : Ref sig .tc := ⟨.hbm, 584, rfl⟩
abbrev main_v576 : Ref sig .tc := ⟨.hbm, 585, rfl⟩
abbrev main_v577 : Ref sig .tc := ⟨.hbm, 586, rfl⟩
abbrev main_v578 : Ref sig .tc := ⟨.hbm, 587, rfl⟩
abbrev main_v579 : Ref sig .tc := ⟨.hbm, 588, rfl⟩
abbrev main_v580 : Ref sig .tc := ⟨.hbm, 589, rfl⟩
abbrev main_v581 : Ref sig .tc := ⟨.hbm, 590, rfl⟩
abbrev main_v582 : Ref sig .tc := ⟨.hbm, 591, rfl⟩
abbrev main_v583 : Ref sig .tc := ⟨.hbm, 592, rfl⟩
abbrev main_v584 : Ref sig .tc := ⟨.hbm, 593, rfl⟩
abbrev main_v585 : Ref sig .tc := ⟨.hbm, 594, rfl⟩
abbrev main_v586 : Ref sig .tc := ⟨.hbm, 595, rfl⟩
abbrev main_v587 : Ref sig .tc := ⟨.hbm, 596, rfl⟩
abbrev main_v588 : Ref sig .tc := ⟨.hbm, 597, rfl⟩
abbrev main_v589 : Ref sig .tc := ⟨.hbm, 598, rfl⟩
abbrev main_v590 : Ref sig .tc := ⟨.hbm, 599, rfl⟩
abbrev main_v591 : Ref sig .tc := ⟨.hbm, 600, rfl⟩
abbrev main_v592 : Ref sig .tc := ⟨.hbm, 601, rfl⟩
abbrev main_v593 : Ref sig .tc := ⟨.hbm, 602, rfl⟩
abbrev main_cst_3 : Ref sig .tc := ⟨.hbm, 603, rfl⟩
abbrev main_v594 : Ref sig .tc := ⟨.hbm, 604, rfl⟩
abbrev main_v595 : Ref sig .tc := ⟨.hbm, 605, rfl⟩
abbrev main_c_4 : Ref sig .tc := ⟨.hbm, 606, rfl⟩
abbrev main_call2_v0 : Ref sig .tc := ⟨.hbm, 607, rfl⟩
abbrev main_v596 : Ref sig .tc := ⟨.hbm, 608, rfl⟩
abbrev main_cst_5 : Ref sig .tc := ⟨.hbm, 609, rfl⟩
abbrev main_v597 : Ref sig .tc := ⟨.hbm, 610, rfl⟩
abbrev main_v598 : Ref sig .tc := ⟨.hbm, 611, rfl⟩
abbrev main_v599 : Ref sig .tc := ⟨.hbm, 612, rfl⟩
abbrev main_v600 : Ref sig .tc := ⟨.hbm, 613, rfl⟩
abbrev main_v601 : Ref sig .tc := ⟨.hbm, 614, rfl⟩
abbrev main_v602 : Ref sig .tc := ⟨.hbm, 615, rfl⟩
abbrev main_v603 : Ref sig .tc := ⟨.hbm, 616, rfl⟩
abbrev main_v604 : Ref sig .tc := ⟨.hbm, 617, rfl⟩
abbrev main_v605 : Ref sig .tc := ⟨.hbm, 618, rfl⟩
abbrev main_v606 : Ref sig .tc := ⟨.hbm, 619, rfl⟩
abbrev main_v607 : Ref sig .tc := ⟨.hbm, 620, rfl⟩
abbrev main_v608 : Ref sig .tc := ⟨.hbm, 621, rfl⟩
abbrev main_v609 : Ref sig .tc := ⟨.hbm, 622, rfl⟩
abbrev main_v610 : Ref sig .tc := ⟨.hbm, 623, rfl⟩
abbrev main_v611 : Ref sig .tc := ⟨.hbm, 624, rfl⟩
abbrev main_v612 : Ref sig .tc := ⟨.hbm, 625, rfl⟩
abbrev main_v613 : Ref sig .tc := ⟨.hbm, 626, rfl⟩
abbrev main_v614 : Ref sig .tc := ⟨.hbm, 627, rfl⟩
abbrev main_v615 : Ref sig .tc := ⟨.hbm, 628, rfl⟩
abbrev main_v616 : Ref sig .tc := ⟨.hbm, 629, rfl⟩
abbrev main_v617 : Ref sig .tc := ⟨.hbm, 630, rfl⟩
abbrev main_v618 : Ref sig .tc := ⟨.hbm, 631, rfl⟩
abbrev main_v619 : Ref sig .tc := ⟨.hbm, 632, rfl⟩
abbrev main_v620 : Ref sig .tc := ⟨.hbm, 633, rfl⟩
abbrev main_v621 : Ref sig .tc := ⟨.hbm, 634, rfl⟩
abbrev main_v622 : Ref sig .tc := ⟨.hbm, 635, rfl⟩
abbrev main_v623 : Ref sig .tc := ⟨.hbm, 636, rfl⟩
abbrev main_v624 : Ref sig .tc := ⟨.hbm, 637, rfl⟩
abbrev main_v625 : Ref sig .tc := ⟨.hbm, 638, rfl⟩
abbrev main_v626 : Ref sig .tc := ⟨.hbm, 639, rfl⟩
abbrev main_v627 : Ref sig .tc := ⟨.hbm, 640, rfl⟩
abbrev main_v628 : Ref sig .tc := ⟨.hbm, 641, rfl⟩
abbrev main_v629 : Ref sig .tc := ⟨.hbm, 642, rfl⟩
abbrev main_v630 : Ref sig .tc := ⟨.hbm, 643, rfl⟩
abbrev main_v631 : Ref sig .tc := ⟨.hbm, 644, rfl⟩
abbrev main_v632 : Ref sig .tc := ⟨.hbm, 645, rfl⟩
abbrev main_v633 : Ref sig .tc := ⟨.hbm, 646, rfl⟩
abbrev main_v634 : Ref sig .tc := ⟨.hbm, 647, rfl⟩
abbrev main_v635 : Ref sig .tc := ⟨.hbm, 648, rfl⟩
abbrev main_v636 : Ref sig .tc := ⟨.hbm, 649, rfl⟩
abbrev main_v637 : Ref sig .tc := ⟨.hbm, 650, rfl⟩
abbrev main_v638 : Ref sig .tc := ⟨.hbm, 651, rfl⟩
abbrev main_v639 : Ref sig .tc := ⟨.hbm, 652, rfl⟩
abbrev main_v640 : Ref sig .tc := ⟨.hbm, 653, rfl⟩
abbrev main_v641 : Ref sig .tc := ⟨.hbm, 654, rfl⟩
abbrev main_v642 : Ref sig .tc := ⟨.hbm, 655, rfl⟩
abbrev main_v643 : Ref sig .tc := ⟨.hbm, 656, rfl⟩
abbrev main_v644 : Ref sig .tc := ⟨.hbm, 657, rfl⟩
abbrev main_v645 : Ref sig .tc := ⟨.hbm, 658, rfl⟩
abbrev main_v646 : Ref sig .tc := ⟨.hbm, 659, rfl⟩
abbrev main_v647 : Ref sig .tc := ⟨.hbm, 660, rfl⟩
abbrev main_v648 : Ref sig .tc := ⟨.hbm, 661, rfl⟩
abbrev main_v649 : Ref sig .tc := ⟨.hbm, 662, rfl⟩
abbrev main_v650 : Ref sig .tc := ⟨.hbm, 663, rfl⟩
abbrev main_v651 : Ref sig .tc := ⟨.hbm, 664, rfl⟩
abbrev main_v652 : Ref sig .tc := ⟨.hbm, 665, rfl⟩
abbrev main_v653 : Ref sig .tc := ⟨.hbm, 666, rfl⟩
abbrev main_v654 : Ref sig .tc := ⟨.hbm, 667, rfl⟩
abbrev main_v655 : Ref sig .tc := ⟨.hbm, 668, rfl⟩
abbrev main_v656 : Ref sig .tc := ⟨.hbm, 669, rfl⟩
abbrev main_v657 : Ref sig .tc := ⟨.hbm, 670, rfl⟩
abbrev main_v658 : Ref sig .tc := ⟨.hbm, 671, rfl⟩
abbrev main_v659 : Ref sig .tc := ⟨.hbm, 672, rfl⟩
abbrev main_v660 : Ref sig .tc := ⟨.hbm, 673, rfl⟩
abbrev main_v661 : Ref sig .tc := ⟨.hbm, 674, rfl⟩
abbrev main_v662 : Ref sig .tc := ⟨.hbm, 675, rfl⟩
abbrev main_v663 : Ref sig .tc := ⟨.hbm, 676, rfl⟩
abbrev main_v664 : Ref sig .tc := ⟨.hbm, 677, rfl⟩
abbrev main_v665 : Ref sig .tc := ⟨.hbm, 678, rfl⟩
abbrev main_v666 : Ref sig .tc := ⟨.hbm, 679, rfl⟩
abbrev main_v667 : Ref sig .tc := ⟨.hbm, 680, rfl⟩
abbrev main_v668 : Ref sig .tc := ⟨.hbm, 681, rfl⟩
abbrev main_v669 : Ref sig .tc := ⟨.hbm, 682, rfl⟩
abbrev main_v670 : Ref sig .tc := ⟨.hbm, 683, rfl⟩
abbrev main_v671 : Ref sig .tc := ⟨.hbm, 684, rfl⟩
abbrev main_v672 : Ref sig .tc := ⟨.hbm, 685, rfl⟩
abbrev main_v673 : Ref sig .tc := ⟨.hbm, 686, rfl⟩
abbrev main_v674 : Ref sig .tc := ⟨.hbm, 687, rfl⟩
abbrev main_v675 : Ref sig .tc := ⟨.hbm, 688, rfl⟩
abbrev main_v676 : Ref sig .tc := ⟨.hbm, 689, rfl⟩
abbrev main_v677 : Ref sig .tc := ⟨.hbm, 690, rfl⟩
abbrev main_v678 : Ref sig .tc := ⟨.hbm, 691, rfl⟩
abbrev main_v679 : Ref sig .tc := ⟨.hbm, 692, rfl⟩
abbrev main_v680 : Ref sig .tc := ⟨.hbm, 693, rfl⟩
abbrev main_v681 : Ref sig .tc := ⟨.hbm, 694, rfl⟩
abbrev main_v682 : Ref sig .tc := ⟨.hbm, 695, rfl⟩
abbrev main_v683 : Ref sig .tc := ⟨.hbm, 696, rfl⟩
abbrev main_v684 : Ref sig .tc := ⟨.hbm, 697, rfl⟩
abbrev main_v685 : Ref sig .tc := ⟨.hbm, 698, rfl⟩
abbrev main_v686 : Ref sig .tc := ⟨.hbm, 699, rfl⟩
abbrev main_v687 : Ref sig .tc := ⟨.hbm, 700, rfl⟩
abbrev main_v688 : Ref sig .tc := ⟨.hbm, 701, rfl⟩
abbrev main_v689 : Ref sig .tc := ⟨.hbm, 702, rfl⟩
abbrev main_v690 : Ref sig .tc := ⟨.hbm, 703, rfl⟩
abbrev main_v691 : Ref sig .tc := ⟨.hbm, 704, rfl⟩
abbrev main_v692 : Ref sig .tc := ⟨.hbm, 705, rfl⟩
abbrev main_v693 : Ref sig .tc := ⟨.hbm, 706, rfl⟩
abbrev main_v694 : Ref sig .tc := ⟨.hbm, 707, rfl⟩
abbrev main_v695 : Ref sig .tc := ⟨.hbm, 708, rfl⟩
abbrev main_v696 : Ref sig .tc := ⟨.hbm, 709, rfl⟩
abbrev main_v697 : Ref sig .tc := ⟨.hbm, 710, rfl⟩
abbrev main_v698 : Ref sig .tc := ⟨.hbm, 711, rfl⟩
abbrev main_v699 : Ref sig .tc := ⟨.hbm, 712, rfl⟩
abbrev main_v700 : Ref sig .tc := ⟨.hbm, 713, rfl⟩
abbrev main_v701 : Ref sig .tc := ⟨.hbm, 714, rfl⟩
abbrev main_v702 : Ref sig .tc := ⟨.hbm, 715, rfl⟩
abbrev main_v703 : Ref sig .tc := ⟨.hbm, 716, rfl⟩
abbrev main_v704 : Ref sig .tc := ⟨.hbm, 717, rfl⟩
abbrev main_v705 : Ref sig .tc := ⟨.hbm, 718, rfl⟩
abbrev main_v706 : Ref sig .tc := ⟨.hbm, 719, rfl⟩
abbrev main_v707 : Ref sig .tc := ⟨.hbm, 720, rfl⟩
abbrev main_v708 : Ref sig .tc := ⟨.hbm, 721, rfl⟩
abbrev main_v709 : Ref sig .tc := ⟨.hbm, 722, rfl⟩
abbrev main_v710 : Ref sig .tc := ⟨.hbm, 723, rfl⟩
abbrev main_v711 : Ref sig .tc := ⟨.hbm, 724, rfl⟩
abbrev main_v712 : Ref sig .tc := ⟨.hbm, 725, rfl⟩
abbrev main_v713 : Ref sig .tc := ⟨.hbm, 726, rfl⟩
abbrev main_v714 : Ref sig .tc := ⟨.hbm, 727, rfl⟩
abbrev main_v715 : Ref sig .tc := ⟨.hbm, 728, rfl⟩
abbrev main_v716 : Ref sig .tc := ⟨.hbm, 729, rfl⟩
abbrev main_v717 : Ref sig .tc := ⟨.hbm, 730, rfl⟩
abbrev main_v718 : Ref sig .tc := ⟨.hbm, 731, rfl⟩
abbrev main_v719 : Ref sig .tc := ⟨.hbm, 732, rfl⟩
abbrev main_v720 : Ref sig .tc := ⟨.hbm, 733, rfl⟩
abbrev main_v721 : Ref sig .tc := ⟨.hbm, 734, rfl⟩
abbrev main_v722 : Ref sig .tc := ⟨.hbm, 735, rfl⟩
abbrev main_v723 : Ref sig .tc := ⟨.hbm, 736, rfl⟩
abbrev main_v724 : Ref sig .tc := ⟨.hbm, 737, rfl⟩
abbrev main_v725 : Ref sig .tc := ⟨.hbm, 738, rfl⟩
abbrev main_v726 : Ref sig .tc := ⟨.hbm, 739, rfl⟩
abbrev main_v727 : Ref sig .tc := ⟨.hbm, 740, rfl⟩
abbrev main_v728 : Ref sig .tc := ⟨.hbm, 741, rfl⟩
abbrev main_v729 : Ref sig .tc := ⟨.hbm, 742, rfl⟩
abbrev main_v730 : Ref sig .tc := ⟨.hbm, 743, rfl⟩
abbrev main_v731 : Ref sig .tc := ⟨.hbm, 744, rfl⟩
abbrev main_v732 : Ref sig .tc := ⟨.hbm, 745, rfl⟩
abbrev main_v733 : Ref sig .tc := ⟨.hbm, 746, rfl⟩
abbrev main_v734 : Ref sig .tc := ⟨.hbm, 747, rfl⟩
abbrev main_v735 : Ref sig .tc := ⟨.hbm, 748, rfl⟩
abbrev main_v736 : Ref sig .tc := ⟨.hbm, 749, rfl⟩
abbrev main_v737 : Ref sig .tc := ⟨.hbm, 750, rfl⟩
abbrev main_v738 : Ref sig .tc := ⟨.hbm, 751, rfl⟩
abbrev main_v739 : Ref sig .tc := ⟨.hbm, 752, rfl⟩
abbrev main_v740 : Ref sig .tc := ⟨.hbm, 753, rfl⟩
abbrev main_v741 : Ref sig .tc := ⟨.hbm, 754, rfl⟩
abbrev main_v742 : Ref sig .tc := ⟨.hbm, 755, rfl⟩
abbrev main_v743 : Ref sig .tc := ⟨.hbm, 756, rfl⟩
abbrev main_v744 : Ref sig .tc := ⟨.hbm, 757, rfl⟩
abbrev main_v745 : Ref sig .tc := ⟨.hbm, 758, rfl⟩
abbrev main_v746 : Ref sig .tc := ⟨.hbm, 759, rfl⟩
abbrev main_v747 : Ref sig .tc := ⟨.hbm, 760, rfl⟩
abbrev main_v748 : Ref sig .tc := ⟨.hbm, 761, rfl⟩
abbrev main_v749 : Ref sig .tc := ⟨.hbm, 762, rfl⟩
abbrev main_v750 : Ref sig .tc := ⟨.hbm, 763, rfl⟩
abbrev main_v751 : Ref sig .tc := ⟨.hbm, 764, rfl⟩
abbrev main_v752 : Ref sig .tc := ⟨.hbm, 765, rfl⟩
abbrev main_v753 : Ref sig .tc := ⟨.hbm, 766, rfl⟩
abbrev main_v754 : Ref sig .tc := ⟨.hbm, 767, rfl⟩
abbrev main_v755 : Ref sig .tc := ⟨.hbm, 768, rfl⟩
abbrev main_v756 : Ref sig .tc := ⟨.hbm, 769, rfl⟩
abbrev main_v757 : Ref sig .tc := ⟨.hbm, 770, rfl⟩
abbrev main_v758 : Ref sig .tc := ⟨.hbm, 771, rfl⟩
abbrev main_v759 : Ref sig .tc := ⟨.hbm, 772, rfl⟩
abbrev main_v760 : Ref sig .tc := ⟨.hbm, 773, rfl⟩
abbrev main_v761 : Ref sig .tc := ⟨.hbm, 774, rfl⟩
abbrev main_v762 : Ref sig .tc := ⟨.hbm, 775, rfl⟩
abbrev main_v763 : Ref sig .tc := ⟨.hbm, 776, rfl⟩
abbrev main_v764 : Ref sig .tc := ⟨.hbm, 777, rfl⟩
abbrev main_v765 : Ref sig .tc := ⟨.hbm, 778, rfl⟩
abbrev main_v766 : Ref sig .tc := ⟨.hbm, 779, rfl⟩
abbrev main_v767 : Ref sig .tc := ⟨.hbm, 780, rfl⟩
abbrev main_v768 : Ref sig .tc := ⟨.hbm, 781, rfl⟩
abbrev main_v769 : Ref sig .tc := ⟨.hbm, 782, rfl⟩
abbrev main_v770 : Ref sig .tc := ⟨.hbm, 783, rfl⟩
abbrev main_v771 : Ref sig .tc := ⟨.hbm, 784, rfl⟩
abbrev main_v772 : Ref sig .tc := ⟨.hbm, 785, rfl⟩
abbrev main_v773 : Ref sig .tc := ⟨.hbm, 786, rfl⟩
abbrev main_v774 : Ref sig .tc := ⟨.hbm, 787, rfl⟩
abbrev main_v775 : Ref sig .tc := ⟨.hbm, 788, rfl⟩
abbrev main_v776 : Ref sig .tc := ⟨.hbm, 789, rfl⟩
abbrev main_v777 : Ref sig .tc := ⟨.hbm, 790, rfl⟩
abbrev main_v778 : Ref sig .tc := ⟨.hbm, 791, rfl⟩
abbrev main_v779 : Ref sig .tc := ⟨.hbm, 792, rfl⟩
abbrev main_v780 : Ref sig .tc := ⟨.hbm, 793, rfl⟩
abbrev main_v781 : Ref sig .tc := ⟨.hbm, 794, rfl⟩
abbrev main_v782 : Ref sig .tc := ⟨.hbm, 795, rfl⟩
abbrev main_v783 : Ref sig .tc := ⟨.hbm, 796, rfl⟩
abbrev main_v784 : Ref sig .tc := ⟨.hbm, 797, rfl⟩
abbrev main_v785 : Ref sig .tc := ⟨.hbm, 798, rfl⟩
abbrev main_v786 : Ref sig .tc := ⟨.hbm, 799, rfl⟩
abbrev main_v787 : Ref sig .tc := ⟨.hbm, 800, rfl⟩
abbrev main_v788 : Ref sig .tc := ⟨.hbm, 801, rfl⟩
abbrev main_v789 : Ref sig .tc := ⟨.hbm, 802, rfl⟩
abbrev main_v790 : Ref sig .tc := ⟨.hbm, 803, rfl⟩
abbrev main_v791 : Ref sig .tc := ⟨.hbm, 804, rfl⟩
abbrev main_v792 : Ref sig .tc := ⟨.hbm, 805, rfl⟩
abbrev main_v793 : Ref sig .tc := ⟨.hbm, 806, rfl⟩
abbrev main_v794 : Ref sig .tc := ⟨.hbm, 807, rfl⟩
abbrev main_v795 : Ref sig .tc := ⟨.hbm, 808, rfl⟩
abbrev main_v796 : Ref sig .tc := ⟨.hbm, 809, rfl⟩
abbrev main_v797 : Ref sig .tc := ⟨.hbm, 810, rfl⟩
abbrev main_v798 : Ref sig .tc := ⟨.hbm, 811, rfl⟩
abbrev main_v799 : Ref sig .tc := ⟨.hbm, 812, rfl⟩
abbrev main_v800 : Ref sig .tc := ⟨.hbm, 813, rfl⟩
abbrev main_v801 : Ref sig .tc := ⟨.hbm, 814, rfl⟩
abbrev main_v802 : Ref sig .tc := ⟨.hbm, 815, rfl⟩
abbrev main_v803 : Ref sig .tc := ⟨.hbm, 816, rfl⟩
abbrev main_v804 : Ref sig .tc := ⟨.hbm, 817, rfl⟩
abbrev main_v805 : Ref sig .tc := ⟨.hbm, 818, rfl⟩
abbrev main_v806 : Ref sig .tc := ⟨.hbm, 819, rfl⟩
abbrev main_v807 : Ref sig .tc := ⟨.hbm, 820, rfl⟩
abbrev main_v808 : Ref sig .tc := ⟨.hbm, 821, rfl⟩
abbrev main_v809 : Ref sig .tc := ⟨.hbm, 822, rfl⟩
abbrev main_v810 : Ref sig .tc := ⟨.hbm, 823, rfl⟩
abbrev main_v811 : Ref sig .tc := ⟨.hbm, 824, rfl⟩
abbrev main_v812 : Ref sig .tc := ⟨.hbm, 825, rfl⟩
abbrev main_v813 : Ref sig .tc := ⟨.hbm, 826, rfl⟩
abbrev main_v814 : Ref sig .tc := ⟨.hbm, 827, rfl⟩
abbrev main_v815 : Ref sig .tc := ⟨.hbm, 828, rfl⟩
abbrev main_v816 : Ref sig .tc := ⟨.hbm, 829, rfl⟩
abbrev main_v817 : Ref sig .tc := ⟨.hbm, 830, rfl⟩
abbrev main_v818 : Ref sig .tc := ⟨.hbm, 831, rfl⟩
abbrev main_v819 : Ref sig .tc := ⟨.hbm, 832, rfl⟩
abbrev main_v820 : Ref sig .tc := ⟨.hbm, 833, rfl⟩
abbrev main_v821 : Ref sig .tc := ⟨.hbm, 834, rfl⟩
abbrev main_v822 : Ref sig .tc := ⟨.hbm, 835, rfl⟩
abbrev main_v823 : Ref sig .tc := ⟨.hbm, 836, rfl⟩
abbrev main_v824 : Ref sig .tc := ⟨.hbm, 837, rfl⟩
abbrev main_v825 : Ref sig .tc := ⟨.hbm, 838, rfl⟩
abbrev main_v826 : Ref sig .tc := ⟨.hbm, 839, rfl⟩
abbrev main_v827 : Ref sig .tc := ⟨.hbm, 840, rfl⟩
abbrev main_v828 : Ref sig .tc := ⟨.hbm, 841, rfl⟩
abbrev main_v829 : Ref sig .tc := ⟨.hbm, 842, rfl⟩
abbrev main_v830 : Ref sig .tc := ⟨.hbm, 843, rfl⟩
abbrev main_v831 : Ref sig .tc := ⟨.hbm, 844, rfl⟩
abbrev main_v832 : Ref sig .tc := ⟨.hbm, 845, rfl⟩
abbrev main_v833 : Ref sig .tc := ⟨.hbm, 846, rfl⟩
abbrev main_v834 : Ref sig .tc := ⟨.hbm, 847, rfl⟩
abbrev main_v835 : Ref sig .tc := ⟨.hbm, 848, rfl⟩
abbrev main_v836 : Ref sig .tc := ⟨.hbm, 849, rfl⟩
abbrev main_v837 : Ref sig .tc := ⟨.hbm, 850, rfl⟩
abbrev main_v838 : Ref sig .tc := ⟨.hbm, 851, rfl⟩
abbrev main_v839 : Ref sig .tc := ⟨.hbm, 852, rfl⟩
abbrev main_v840 : Ref sig .tc := ⟨.hbm, 853, rfl⟩
abbrev main_v841 : Ref sig .tc := ⟨.hbm, 854, rfl⟩
abbrev main_v842 : Ref sig .tc := ⟨.hbm, 855, rfl⟩
abbrev main_v843 : Ref sig .tc := ⟨.hbm, 856, rfl⟩
abbrev main_v844 : Ref sig .tc := ⟨.hbm, 857, rfl⟩
abbrev main_v845 : Ref sig .tc := ⟨.hbm, 858, rfl⟩
abbrev main_v846 : Ref sig .tc := ⟨.hbm, 859, rfl⟩
abbrev main_v847 : Ref sig .tc := ⟨.hbm, 860, rfl⟩
abbrev main_v848 : Ref sig .tc := ⟨.hbm, 861, rfl⟩
abbrev main_v849 : Ref sig .tc := ⟨.hbm, 862, rfl⟩
abbrev main_v850 : Ref sig .tc := ⟨.hbm, 863, rfl⟩
abbrev main_v851 : Ref sig .tc := ⟨.hbm, 864, rfl⟩
abbrev main_v852 : Ref sig .tc := ⟨.hbm, 865, rfl⟩
abbrev main_v853 : Ref sig .tc := ⟨.hbm, 866, rfl⟩
abbrev main_v854 : Ref sig .tc := ⟨.hbm, 867, rfl⟩
abbrev main_v855 : Ref sig .tc := ⟨.hbm, 868, rfl⟩
abbrev main_v856 : Ref sig .tc := ⟨.hbm, 869, rfl⟩
abbrev main_v857 : Ref sig .tc := ⟨.hbm, 870, rfl⟩
abbrev main_v858 : Ref sig .tc := ⟨.hbm, 871, rfl⟩
abbrev main_v859 : Ref sig .tc := ⟨.hbm, 872, rfl⟩
abbrev main_v860 : Ref sig .tc := ⟨.hbm, 873, rfl⟩
abbrev main_v861 : Ref sig .tc := ⟨.hbm, 874, rfl⟩
abbrev main_v862 : Ref sig .tc := ⟨.hbm, 875, rfl⟩
abbrev main_v863 : Ref sig .tc := ⟨.hbm, 876, rfl⟩
abbrev main_v864 : Ref sig .tc := ⟨.hbm, 877, rfl⟩
abbrev main_v865 : Ref sig .tc := ⟨.hbm, 878, rfl⟩
abbrev main_v866 : Ref sig .tc := ⟨.hbm, 879, rfl⟩
abbrev main_v867 : Ref sig .tc := ⟨.hbm, 880, rfl⟩
abbrev main_v868 : Ref sig .tc := ⟨.hbm, 881, rfl⟩
abbrev main_v869 : Ref sig .tc := ⟨.hbm, 882, rfl⟩
abbrev main_v870 : Ref sig .tc := ⟨.hbm, 883, rfl⟩
abbrev main_v871 : Ref sig .tc := ⟨.hbm, 884, rfl⟩
abbrev main_v872 : Ref sig .tc := ⟨.hbm, 885, rfl⟩
abbrev main_v873 : Ref sig .tc := ⟨.hbm, 886, rfl⟩
abbrev main_v874 : Ref sig .tc := ⟨.hbm, 887, rfl⟩
abbrev main_v875 : Ref sig .tc := ⟨.hbm, 888, rfl⟩
abbrev main_v876 : Ref sig .tc := ⟨.hbm, 889, rfl⟩
abbrev main_v877 : Ref sig .tc := ⟨.hbm, 890, rfl⟩
abbrev main_v878 : Ref sig .tc := ⟨.hbm, 891, rfl⟩
abbrev main_v879 : Ref sig .tc := ⟨.hbm, 892, rfl⟩
abbrev main_v880 : Ref sig .tc := ⟨.hbm, 893, rfl⟩
abbrev main_v881 : Ref sig .tc := ⟨.hbm, 894, rfl⟩
abbrev main_v882 : Ref sig .tc := ⟨.hbm, 895, rfl⟩
abbrev main_v883 : Ref sig .tc := ⟨.hbm, 896, rfl⟩
abbrev main_v884 : Ref sig .tc := ⟨.hbm, 897, rfl⟩
abbrev main_v885 : Ref sig .tc := ⟨.hbm, 898, rfl⟩
abbrev main_v886 : Ref sig .tc := ⟨.hbm, 899, rfl⟩
abbrev main_v887 : Ref sig .tc := ⟨.hbm, 900, rfl⟩
abbrev main_v888 : Ref sig .tc := ⟨.hbm, 901, rfl⟩
abbrev main_v889 : Ref sig .tc := ⟨.hbm, 902, rfl⟩
abbrev main_v890 : Ref sig .tc := ⟨.hbm, 903, rfl⟩
abbrev main_v891 : Ref sig .tc := ⟨.hbm, 904, rfl⟩
abbrev main_cst_6 : Ref sig .tc := ⟨.hbm, 905, rfl⟩
abbrev main_v892 : Ref sig .tc := ⟨.hbm, 906, rfl⟩
abbrev main_v893 : Ref sig .tc := ⟨.hbm, 907, rfl⟩
abbrev main_c_7 : Ref sig .tc := ⟨.hbm, 908, rfl⟩
abbrev main_call3_v0 : Ref sig .tc := ⟨.hbm, 909, rfl⟩
abbrev main_v894 : Ref sig .tc := ⟨.hbm, 910, rfl⟩
abbrev main_cst_8 : Ref sig .tc := ⟨.hbm, 911, rfl⟩
abbrev main_v895 : Ref sig .tc := ⟨.hbm, 912, rfl⟩
abbrev main_v896 : Ref sig .tc := ⟨.hbm, 913, rfl⟩
abbrev main_v897 : Ref sig .tc := ⟨.hbm, 914, rfl⟩
abbrev main_v898 : Ref sig .tc := ⟨.hbm, 915, rfl⟩
abbrev main_v899 : Ref sig .tc := ⟨.hbm, 916, rfl⟩
abbrev main_v900 : Ref sig .tc := ⟨.hbm, 917, rfl⟩
abbrev main_v901 : Ref sig .tc := ⟨.hbm, 918, rfl⟩
abbrev main_v902 : Ref sig .tc := ⟨.hbm, 919, rfl⟩
abbrev main_v903 : Ref sig .tc := ⟨.hbm, 920, rfl⟩
abbrev main_v904 : Ref sig .tc := ⟨.hbm, 921, rfl⟩
abbrev main_v905 : Ref sig .tc := ⟨.hbm, 922, rfl⟩
abbrev main_v906 : Ref sig .tc := ⟨.hbm, 923, rfl⟩
abbrev main_v907 : Ref sig .tc := ⟨.hbm, 924, rfl⟩
abbrev main_v908 : Ref sig .tc := ⟨.hbm, 925, rfl⟩
abbrev main_v909 : Ref sig .tc := ⟨.hbm, 926, rfl⟩
abbrev main_v910 : Ref sig .tc := ⟨.hbm, 927, rfl⟩
abbrev main_v911 : Ref sig .tc := ⟨.hbm, 928, rfl⟩
abbrev main_v912 : Ref sig .tc := ⟨.hbm, 929, rfl⟩
abbrev main_v913 : Ref sig .tc := ⟨.hbm, 930, rfl⟩
abbrev main_v914 : Ref sig .tc := ⟨.hbm, 931, rfl⟩
abbrev main_v915 : Ref sig .tc := ⟨.hbm, 932, rfl⟩
abbrev main_v916 : Ref sig .tc := ⟨.hbm, 933, rfl⟩
abbrev main_v917 : Ref sig .tc := ⟨.hbm, 934, rfl⟩
abbrev main_v918 : Ref sig .tc := ⟨.hbm, 935, rfl⟩
abbrev main_v919 : Ref sig .tc := ⟨.hbm, 936, rfl⟩
abbrev main_v920 : Ref sig .tc := ⟨.hbm, 937, rfl⟩
abbrev main_v921 : Ref sig .tc := ⟨.hbm, 938, rfl⟩
abbrev main_v922 : Ref sig .tc := ⟨.hbm, 939, rfl⟩
abbrev main_v923 : Ref sig .tc := ⟨.hbm, 940, rfl⟩
abbrev main_v924 : Ref sig .tc := ⟨.hbm, 941, rfl⟩
abbrev main_v925 : Ref sig .tc := ⟨.hbm, 942, rfl⟩
abbrev main_v926 : Ref sig .tc := ⟨.hbm, 943, rfl⟩
abbrev main_v927 : Ref sig .tc := ⟨.hbm, 944, rfl⟩
abbrev main_v928 : Ref sig .tc := ⟨.hbm, 945, rfl⟩
abbrev main_v929 : Ref sig .tc := ⟨.hbm, 946, rfl⟩
abbrev main_v930 : Ref sig .tc := ⟨.hbm, 947, rfl⟩
abbrev main_v931 : Ref sig .tc := ⟨.hbm, 948, rfl⟩
abbrev main_v932 : Ref sig .tc := ⟨.hbm, 949, rfl⟩
abbrev main_v933 : Ref sig .tc := ⟨.hbm, 950, rfl⟩
abbrev main_v934 : Ref sig .tc := ⟨.hbm, 951, rfl⟩
abbrev main_v935 : Ref sig .tc := ⟨.hbm, 952, rfl⟩
abbrev main_v936 : Ref sig .tc := ⟨.hbm, 953, rfl⟩
abbrev main_v937 : Ref sig .tc := ⟨.hbm, 954, rfl⟩
abbrev main_v938 : Ref sig .tc := ⟨.hbm, 955, rfl⟩
abbrev main_v939 : Ref sig .tc := ⟨.hbm, 956, rfl⟩
abbrev main_v940 : Ref sig .tc := ⟨.hbm, 957, rfl⟩
abbrev main_v941 : Ref sig .tc := ⟨.hbm, 958, rfl⟩
abbrev main_v942 : Ref sig .tc := ⟨.hbm, 959, rfl⟩
abbrev main_v943 : Ref sig .tc := ⟨.hbm, 960, rfl⟩
abbrev main_v944 : Ref sig .tc := ⟨.hbm, 961, rfl⟩
abbrev main_v945 : Ref sig .tc := ⟨.hbm, 962, rfl⟩
abbrev main_v946 : Ref sig .tc := ⟨.hbm, 963, rfl⟩
abbrev main_v947 : Ref sig .tc := ⟨.hbm, 964, rfl⟩
abbrev main_v948 : Ref sig .tc := ⟨.hbm, 965, rfl⟩
abbrev main_v949 : Ref sig .tc := ⟨.hbm, 966, rfl⟩
abbrev main_v950 : Ref sig .tc := ⟨.hbm, 967, rfl⟩
abbrev main_v951 : Ref sig .tc := ⟨.hbm, 968, rfl⟩
abbrev main_v952 : Ref sig .tc := ⟨.hbm, 969, rfl⟩
abbrev main_v953 : Ref sig .tc := ⟨.hbm, 970, rfl⟩
abbrev main_v954 : Ref sig .tc := ⟨.hbm, 971, rfl⟩
abbrev main_v955 : Ref sig .tc := ⟨.hbm, 972, rfl⟩
abbrev main_v956 : Ref sig .tc := ⟨.hbm, 973, rfl⟩
abbrev main_v957 : Ref sig .tc := ⟨.hbm, 974, rfl⟩
abbrev main_v958 : Ref sig .tc := ⟨.hbm, 975, rfl⟩
abbrev main_v959 : Ref sig .tc := ⟨.hbm, 976, rfl⟩
abbrev main_v960 : Ref sig .tc := ⟨.hbm, 977, rfl⟩
abbrev main_v961 : Ref sig .tc := ⟨.hbm, 978, rfl⟩
abbrev main_v962 : Ref sig .tc := ⟨.hbm, 979, rfl⟩
abbrev main_v963 : Ref sig .tc := ⟨.hbm, 980, rfl⟩
abbrev main_v964 : Ref sig .tc := ⟨.hbm, 981, rfl⟩
abbrev main_v965 : Ref sig .tc := ⟨.hbm, 982, rfl⟩
abbrev main_v966 : Ref sig .tc := ⟨.hbm, 983, rfl⟩
abbrev main_v967 : Ref sig .tc := ⟨.hbm, 984, rfl⟩
abbrev main_v968 : Ref sig .tc := ⟨.hbm, 985, rfl⟩
abbrev main_v969 : Ref sig .tc := ⟨.hbm, 986, rfl⟩
abbrev main_v970 : Ref sig .tc := ⟨.hbm, 987, rfl⟩
abbrev main_v971 : Ref sig .tc := ⟨.hbm, 988, rfl⟩
abbrev main_v972 : Ref sig .tc := ⟨.hbm, 989, rfl⟩
abbrev main_v973 : Ref sig .tc := ⟨.hbm, 990, rfl⟩
abbrev main_v974 : Ref sig .tc := ⟨.hbm, 991, rfl⟩
abbrev main_v975 : Ref sig .tc := ⟨.hbm, 992, rfl⟩
abbrev main_v976 : Ref sig .tc := ⟨.hbm, 993, rfl⟩
abbrev main_v977 : Ref sig .tc := ⟨.hbm, 994, rfl⟩
abbrev main_v978 : Ref sig .tc := ⟨.hbm, 995, rfl⟩
abbrev main_v979 : Ref sig .tc := ⟨.hbm, 996, rfl⟩
abbrev main_v980 : Ref sig .tc := ⟨.hbm, 997, rfl⟩
abbrev main_v981 : Ref sig .tc := ⟨.hbm, 998, rfl⟩
abbrev main_v982 : Ref sig .tc := ⟨.hbm, 999, rfl⟩
abbrev main_v983 : Ref sig .tc := ⟨.hbm, 1000, rfl⟩
abbrev main_v984 : Ref sig .tc := ⟨.hbm, 1001, rfl⟩
abbrev main_v985 : Ref sig .tc := ⟨.hbm, 1002, rfl⟩
abbrev main_v986 : Ref sig .tc := ⟨.hbm, 1003, rfl⟩
abbrev main_v987 : Ref sig .tc := ⟨.hbm, 1004, rfl⟩
abbrev main_v988 : Ref sig .tc := ⟨.hbm, 1005, rfl⟩
abbrev main_v989 : Ref sig .tc := ⟨.hbm, 1006, rfl⟩
abbrev main_v990 : Ref sig .tc := ⟨.hbm, 1007, rfl⟩
abbrev main_v991 : Ref sig .tc := ⟨.hbm, 1008, rfl⟩
abbrev main_v992 : Ref sig .tc := ⟨.hbm, 1009, rfl⟩
abbrev main_v993 : Ref sig .tc := ⟨.hbm, 1010, rfl⟩
abbrev main_v994 : Ref sig .tc := ⟨.hbm, 1011, rfl⟩
abbrev main_v995 : Ref sig .tc := ⟨.hbm, 1012, rfl⟩
abbrev main_v996 : Ref sig .tc := ⟨.hbm, 1013, rfl⟩
abbrev main_v997 : Ref sig .tc := ⟨.hbm, 1014, rfl⟩
abbrev main_v998 : Ref sig .tc := ⟨.hbm, 1015, rfl⟩
abbrev main_v999 : Ref sig .tc := ⟨.hbm, 1016, rfl⟩
abbrev main_v1000 : Ref sig .tc := ⟨.hbm, 1017, rfl⟩
abbrev main_v1001 : Ref sig .tc := ⟨.hbm, 1018, rfl⟩
abbrev main_v1002 : Ref sig .tc := ⟨.hbm, 1019, rfl⟩
abbrev main_v1003 : Ref sig .tc := ⟨.hbm, 1020, rfl⟩
abbrev main_v1004 : Ref sig .tc := ⟨.hbm, 1021, rfl⟩
abbrev main_v1005 : Ref sig .tc := ⟨.hbm, 1022, rfl⟩
abbrev main_v1006 : Ref sig .tc := ⟨.hbm, 1023, rfl⟩
abbrev main_v1007 : Ref sig .tc := ⟨.hbm, 1024, rfl⟩
abbrev main_v1008 : Ref sig .tc := ⟨.hbm, 1025, rfl⟩
abbrev main_v1009 : Ref sig .tc := ⟨.hbm, 1026, rfl⟩
abbrev main_v1010 : Ref sig .tc := ⟨.hbm, 1027, rfl⟩
abbrev main_v1011 : Ref sig .tc := ⟨.hbm, 1028, rfl⟩
abbrev main_v1012 : Ref sig .tc := ⟨.hbm, 1029, rfl⟩
abbrev main_v1013 : Ref sig .tc := ⟨.hbm, 1030, rfl⟩
abbrev main_v1014 : Ref sig .tc := ⟨.hbm, 1031, rfl⟩
abbrev main_v1015 : Ref sig .tc := ⟨.hbm, 1032, rfl⟩
abbrev main_v1016 : Ref sig .tc := ⟨.hbm, 1033, rfl⟩
abbrev main_v1017 : Ref sig .tc := ⟨.hbm, 1034, rfl⟩
abbrev main_v1018 : Ref sig .tc := ⟨.hbm, 1035, rfl⟩
abbrev main_v1019 : Ref sig .tc := ⟨.hbm, 1036, rfl⟩
abbrev main_v1020 : Ref sig .tc := ⟨.hbm, 1037, rfl⟩
abbrev main_v1021 : Ref sig .tc := ⟨.hbm, 1038, rfl⟩
abbrev main_v1022 : Ref sig .tc := ⟨.hbm, 1039, rfl⟩
abbrev main_v1023 : Ref sig .tc := ⟨.hbm, 1040, rfl⟩
abbrev main_v1024 : Ref sig .tc := ⟨.hbm, 1041, rfl⟩
abbrev main_v1025 : Ref sig .tc := ⟨.hbm, 1042, rfl⟩
abbrev main_v1026 : Ref sig .tc := ⟨.hbm, 1043, rfl⟩
abbrev main_v1027 : Ref sig .tc := ⟨.hbm, 1044, rfl⟩
abbrev main_v1028 : Ref sig .tc := ⟨.hbm, 1045, rfl⟩
abbrev main_v1029 : Ref sig .tc := ⟨.hbm, 1046, rfl⟩
abbrev main_v1030 : Ref sig .tc := ⟨.hbm, 1047, rfl⟩
abbrev main_v1031 : Ref sig .tc := ⟨.hbm, 1048, rfl⟩
abbrev main_v1032 : Ref sig .tc := ⟨.hbm, 1049, rfl⟩
abbrev main_v1033 : Ref sig .tc := ⟨.hbm, 1050, rfl⟩
abbrev main_v1034 : Ref sig .tc := ⟨.hbm, 1051, rfl⟩
abbrev main_v1035 : Ref sig .tc := ⟨.hbm, 1052, rfl⟩
abbrev main_v1036 : Ref sig .tc := ⟨.hbm, 1053, rfl⟩
abbrev main_v1037 : Ref sig .tc := ⟨.hbm, 1054, rfl⟩
abbrev main_v1038 : Ref sig .tc := ⟨.hbm, 1055, rfl⟩
abbrev main_v1039 : Ref sig .tc := ⟨.hbm, 1056, rfl⟩
abbrev main_v1040 : Ref sig .tc := ⟨.hbm, 1057, rfl⟩
abbrev main_v1041 : Ref sig .tc := ⟨.hbm, 1058, rfl⟩
abbrev main_v1042 : Ref sig .tc := ⟨.hbm, 1059, rfl⟩
abbrev main_v1043 : Ref sig .tc := ⟨.hbm, 1060, rfl⟩
abbrev main_v1044 : Ref sig .tc := ⟨.hbm, 1061, rfl⟩
abbrev main_v1045 : Ref sig .tc := ⟨.hbm, 1062, rfl⟩
abbrev main_v1046 : Ref sig .tc := ⟨.hbm, 1063, rfl⟩
abbrev main_v1047 : Ref sig .tc := ⟨.hbm, 1064, rfl⟩
abbrev main_v1048 : Ref sig .tc := ⟨.hbm, 1065, rfl⟩
abbrev main_v1049 : Ref sig .tc := ⟨.hbm, 1066, rfl⟩
abbrev main_v1050 : Ref sig .tc := ⟨.hbm, 1067, rfl⟩
abbrev main_v1051 : Ref sig .tc := ⟨.hbm, 1068, rfl⟩
abbrev main_v1052 : Ref sig .tc := ⟨.hbm, 1069, rfl⟩
abbrev main_v1053 : Ref sig .tc := ⟨.hbm, 1070, rfl⟩
abbrev main_v1054 : Ref sig .tc := ⟨.hbm, 1071, rfl⟩
abbrev main_v1055 : Ref sig .tc := ⟨.hbm, 1072, rfl⟩
abbrev main_v1056 : Ref sig .tc := ⟨.hbm, 1073, rfl⟩
abbrev main_v1057 : Ref sig .tc := ⟨.hbm, 1074, rfl⟩
abbrev main_v1058 : Ref sig .tc := ⟨.hbm, 1075, rfl⟩
abbrev main_v1059 : Ref sig .tc := ⟨.hbm, 1076, rfl⟩
abbrev main_v1060 : Ref sig .tc := ⟨.hbm, 1077, rfl⟩
abbrev main_v1061 : Ref sig .tc := ⟨.hbm, 1078, rfl⟩
abbrev main_v1062 : Ref sig .tc := ⟨.hbm, 1079, rfl⟩
abbrev main_v1063 : Ref sig .tc := ⟨.hbm, 1080, rfl⟩
abbrev main_v1064 : Ref sig .tc := ⟨.hbm, 1081, rfl⟩
abbrev main_v1065 : Ref sig .tc := ⟨.hbm, 1082, rfl⟩
abbrev main_v1066 : Ref sig .tc := ⟨.hbm, 1083, rfl⟩
abbrev main_v1067 : Ref sig .tc := ⟨.hbm, 1084, rfl⟩
abbrev main_v1068 : Ref sig .tc := ⟨.hbm, 1085, rfl⟩
abbrev main_v1069 : Ref sig .tc := ⟨.hbm, 1086, rfl⟩
abbrev main_v1070 : Ref sig .tc := ⟨.hbm, 1087, rfl⟩
abbrev main_v1071 : Ref sig .tc := ⟨.hbm, 1088, rfl⟩
abbrev main_v1072 : Ref sig .tc := ⟨.hbm, 1089, rfl⟩
abbrev main_v1073 : Ref sig .tc := ⟨.hbm, 1090, rfl⟩
abbrev main_v1074 : Ref sig .tc := ⟨.hbm, 1091, rfl⟩
abbrev main_v1075 : Ref sig .tc := ⟨.hbm, 1092, rfl⟩
abbrev main_v1076 : Ref sig .tc := ⟨.hbm, 1093, rfl⟩
abbrev main_v1077 : Ref sig .tc := ⟨.hbm, 1094, rfl⟩
abbrev main_v1078 : Ref sig .tc := ⟨.hbm, 1095, rfl⟩
abbrev main_v1079 : Ref sig .tc := ⟨.hbm, 1096, rfl⟩
abbrev main_v1080 : Ref sig .tc := ⟨.hbm, 1097, rfl⟩
abbrev main_v1081 : Ref sig .tc := ⟨.hbm, 1098, rfl⟩
abbrev main_v1082 : Ref sig .tc := ⟨.hbm, 1099, rfl⟩
abbrev main_v1083 : Ref sig .tc := ⟨.hbm, 1100, rfl⟩
abbrev main_v1084 : Ref sig .tc := ⟨.hbm, 1101, rfl⟩
abbrev main_v1085 : Ref sig .tc := ⟨.hbm, 1102, rfl⟩
abbrev main_v1086 : Ref sig .tc := ⟨.hbm, 1103, rfl⟩
abbrev main_v1087 : Ref sig .tc := ⟨.hbm, 1104, rfl⟩
abbrev main_v1088 : Ref sig .tc := ⟨.hbm, 1105, rfl⟩
abbrev main_v1089 : Ref sig .tc := ⟨.hbm, 1106, rfl⟩
abbrev main_v1090 : Ref sig .tc := ⟨.hbm, 1107, rfl⟩
abbrev main_v1091 : Ref sig .tc := ⟨.hbm, 1108, rfl⟩
abbrev main_v1092 : Ref sig .tc := ⟨.hbm, 1109, rfl⟩
abbrev main_v1093 : Ref sig .tc := ⟨.hbm, 1110, rfl⟩
abbrev main_v1094 : Ref sig .tc := ⟨.hbm, 1111, rfl⟩
abbrev main_v1095 : Ref sig .tc := ⟨.hbm, 1112, rfl⟩
abbrev main_v1096 : Ref sig .tc := ⟨.hbm, 1113, rfl⟩
abbrev main_v1097 : Ref sig .tc := ⟨.hbm, 1114, rfl⟩
abbrev main_v1098 : Ref sig .tc := ⟨.hbm, 1115, rfl⟩
abbrev main_v1099 : Ref sig .tc := ⟨.hbm, 1116, rfl⟩
abbrev main_v1100 : Ref sig .tc := ⟨.hbm, 1117, rfl⟩
abbrev main_v1101 : Ref sig .tc := ⟨.hbm, 1118, rfl⟩
abbrev main_v1102 : Ref sig .tc := ⟨.hbm, 1119, rfl⟩
abbrev main_v1103 : Ref sig .tc := ⟨.hbm, 1120, rfl⟩
abbrev main_v1104 : Ref sig .tc := ⟨.hbm, 1121, rfl⟩
abbrev main_v1105 : Ref sig .tc := ⟨.hbm, 1122, rfl⟩
abbrev main_v1106 : Ref sig .tc := ⟨.hbm, 1123, rfl⟩
abbrev main_v1107 : Ref sig .tc := ⟨.hbm, 1124, rfl⟩
abbrev main_v1108 : Ref sig .tc := ⟨.hbm, 1125, rfl⟩
abbrev main_v1109 : Ref sig .tc := ⟨.hbm, 1126, rfl⟩
abbrev main_v1110 : Ref sig .tc := ⟨.hbm, 1127, rfl⟩
abbrev main_v1111 : Ref sig .tc := ⟨.hbm, 1128, rfl⟩
abbrev main_v1112 : Ref sig .tc := ⟨.hbm, 1129, rfl⟩
abbrev main_v1113 : Ref sig .tc := ⟨.hbm, 1130, rfl⟩
abbrev main_v1114 : Ref sig .tc := ⟨.hbm, 1131, rfl⟩
abbrev main_v1115 : Ref sig .tc := ⟨.hbm, 1132, rfl⟩
abbrev main_v1116 : Ref sig .tc := ⟨.hbm, 1133, rfl⟩
abbrev main_v1117 : Ref sig .tc := ⟨.hbm, 1134, rfl⟩
abbrev main_v1118 : Ref sig .tc := ⟨.hbm, 1135, rfl⟩
abbrev main_v1119 : Ref sig .tc := ⟨.hbm, 1136, rfl⟩
abbrev main_v1120 : Ref sig .tc := ⟨.hbm, 1137, rfl⟩
abbrev main_v1121 : Ref sig .tc := ⟨.hbm, 1138, rfl⟩
abbrev main_v1122 : Ref sig .tc := ⟨.hbm, 1139, rfl⟩
abbrev main_v1123 : Ref sig .tc := ⟨.hbm, 1140, rfl⟩
abbrev main_v1124 : Ref sig .tc := ⟨.hbm, 1141, rfl⟩
abbrev main_v1125 : Ref sig .tc := ⟨.hbm, 1142, rfl⟩
abbrev main_v1126 : Ref sig .tc := ⟨.hbm, 1143, rfl⟩
abbrev main_v1127 : Ref sig .tc := ⟨.hbm, 1144, rfl⟩
abbrev main_v1128 : Ref sig .tc := ⟨.hbm, 1145, rfl⟩
abbrev main_v1129 : Ref sig .tc := ⟨.hbm, 1146, rfl⟩
abbrev main_v1130 : Ref sig .tc := ⟨.hbm, 1147, rfl⟩
abbrev main_v1131 : Ref sig .tc := ⟨.hbm, 1148, rfl⟩
abbrev main_v1132 : Ref sig .tc := ⟨.hbm, 1149, rfl⟩
abbrev main_v1133 : Ref sig .tc := ⟨.hbm, 1150, rfl⟩
abbrev main_v1134 : Ref sig .tc := ⟨.hbm, 1151, rfl⟩
abbrev main_v1135 : Ref sig .tc := ⟨.hbm, 1152, rfl⟩
abbrev main_v1136 : Ref sig .tc := ⟨.hbm, 1153, rfl⟩
abbrev main_v1137 : Ref sig .tc := ⟨.hbm, 1154, rfl⟩
abbrev main_v1138 : Ref sig .tc := ⟨.hbm, 1155, rfl⟩
abbrev main_v1139 : Ref sig .tc := ⟨.hbm, 1156, rfl⟩
abbrev main_v1140 : Ref sig .tc := ⟨.hbm, 1157, rfl⟩
abbrev main_v1141 : Ref sig .tc := ⟨.hbm, 1158, rfl⟩
abbrev main_v1142 : Ref sig .tc := ⟨.hbm, 1159, rfl⟩
abbrev main_v1143 : Ref sig .tc := ⟨.hbm, 1160, rfl⟩
abbrev main_v1144 : Ref sig .tc := ⟨.hbm, 1161, rfl⟩
abbrev main_v1145 : Ref sig .tc := ⟨.hbm, 1162, rfl⟩
abbrev main_v1146 : Ref sig .tc := ⟨.hbm, 1163, rfl⟩
abbrev main_v1147 : Ref sig .tc := ⟨.hbm, 1164, rfl⟩
abbrev main_v1148 : Ref sig .tc := ⟨.hbm, 1165, rfl⟩
abbrev main_v1149 : Ref sig .tc := ⟨.hbm, 1166, rfl⟩
abbrev main_v1150 : Ref sig .tc := ⟨.hbm, 1167, rfl⟩
abbrev main_v1151 : Ref sig .tc := ⟨.hbm, 1168, rfl⟩
abbrev main_v1152 : Ref sig .tc := ⟨.hbm, 1169, rfl⟩
abbrev main_v1153 : Ref sig .tc := ⟨.hbm, 1170, rfl⟩
abbrev main_v1154 : Ref sig .tc := ⟨.hbm, 1171, rfl⟩
abbrev main_v1155 : Ref sig .tc := ⟨.hbm, 1172, rfl⟩
abbrev main_v1156 : Ref sig .tc := ⟨.hbm, 1173, rfl⟩
abbrev main_v1157 : Ref sig .tc := ⟨.hbm, 1174, rfl⟩
abbrev main_v1158 : Ref sig .tc := ⟨.hbm, 1175, rfl⟩
abbrev main_v1159 : Ref sig .tc := ⟨.hbm, 1176, rfl⟩
abbrev main_v1160 : Ref sig .tc := ⟨.hbm, 1177, rfl⟩
abbrev main_v1161 : Ref sig .tc := ⟨.hbm, 1178, rfl⟩
abbrev main_v1162 : Ref sig .tc := ⟨.hbm, 1179, rfl⟩
abbrev main_v1163 : Ref sig .tc := ⟨.hbm, 1180, rfl⟩
abbrev main_v1164 : Ref sig .tc := ⟨.hbm, 1181, rfl⟩
abbrev main_v1165 : Ref sig .tc := ⟨.hbm, 1182, rfl⟩
abbrev main_v1166 : Ref sig .tc := ⟨.hbm, 1183, rfl⟩
abbrev main_v1167 : Ref sig .tc := ⟨.hbm, 1184, rfl⟩
abbrev main_v1168 : Ref sig .tc := ⟨.hbm, 1185, rfl⟩
abbrev main_v1169 : Ref sig .tc := ⟨.hbm, 1186, rfl⟩
abbrev main_v1170 : Ref sig .tc := ⟨.hbm, 1187, rfl⟩
abbrev main_v1171 : Ref sig .tc := ⟨.hbm, 1188, rfl⟩
abbrev main_v1172 : Ref sig .tc := ⟨.hbm, 1189, rfl⟩
abbrev main_v1173 : Ref sig .tc := ⟨.hbm, 1190, rfl⟩
abbrev main_v1174 : Ref sig .tc := ⟨.hbm, 1191, rfl⟩
abbrev main_v1175 : Ref sig .tc := ⟨.hbm, 1192, rfl⟩
abbrev main_v1176 : Ref sig .tc := ⟨.hbm, 1193, rfl⟩
abbrev main_v1177 : Ref sig .tc := ⟨.hbm, 1194, rfl⟩
abbrev main_v1178 : Ref sig .tc := ⟨.hbm, 1195, rfl⟩
abbrev main_v1179 : Ref sig .tc := ⟨.hbm, 1196, rfl⟩
abbrev main_v1180 : Ref sig .tc := ⟨.hbm, 1197, rfl⟩
abbrev main_v1181 : Ref sig .tc := ⟨.hbm, 1198, rfl⟩
abbrev main_v1182 : Ref sig .tc := ⟨.hbm, 1199, rfl⟩
abbrev main_v1183 : Ref sig .tc := ⟨.hbm, 1200, rfl⟩
abbrev main_v1184 : Ref sig .tc := ⟨.hbm, 1201, rfl⟩
abbrev main_v1185 : Ref sig .tc := ⟨.hbm, 1202, rfl⟩
abbrev main_v1186 : Ref sig .tc := ⟨.hbm, 1203, rfl⟩
abbrev main_v1187 : Ref sig .tc := ⟨.hbm, 1204, rfl⟩
abbrev main_v1188 : Ref sig .tc := ⟨.hbm, 1205, rfl⟩
abbrev main_v1189 : Ref sig .tc := ⟨.hbm, 1206, rfl⟩
abbrev main_cst_9 : Ref sig .tc := ⟨.hbm, 1207, rfl⟩
abbrev main_v1190 : Ref sig .tc := ⟨.hbm, 1208, rfl⟩
abbrev main_v1191 : Ref sig .tc := ⟨.hbm, 1209, rfl⟩
abbrev main_cst_10 : Ref sig .tc := ⟨.hbm, 1210, rfl⟩
abbrev main_v1192 : Ref sig .tc := ⟨.hbm, 1211, rfl⟩
abbrev main_v1193 : Ref sig .tc := ⟨.hbm, 1212, rfl⟩
abbrev main_v1194 : Ref sig .tc := ⟨.hbm, 1213, rfl⟩
abbrev main_cst_11 : Ref sig .tc := ⟨.hbm, 1214, rfl⟩
abbrev main_v1195 : Ref sig .tc := ⟨.hbm, 1215, rfl⟩
abbrev main_v1196 : Ref sig .tc := ⟨.hbm, 1216, rfl⟩
abbrev main_cst_12 : Ref sig .tc := ⟨.hbm, 1217, rfl⟩
abbrev main_v1197 : Ref sig .tc := ⟨.hbm, 1218, rfl⟩
abbrev main_v1198 : Ref sig .tc := ⟨.hbm, 1219, rfl⟩
abbrev main_cst_13 : Ref sig .tc := ⟨.hbm, 1220, rfl⟩
abbrev main_v1199 : Ref sig .tc := ⟨.hbm, 1221, rfl⟩
abbrev main_v1200 : Ref sig .tc := ⟨.hbm, 1222, rfl⟩
abbrev main_v1201 : Ref sig .tc := ⟨.hbm, 1223, rfl⟩
abbrev main_cst_14 : Ref sig .tc := ⟨.hbm, 1224, rfl⟩
abbrev main_v1202 : Ref sig .tc := ⟨.hbm, 1225, rfl⟩
abbrev main_v1203 : Ref sig .tc := ⟨.hbm, 1226, rfl⟩

abbrev nD : Nat := 1
abbrev τ : Topo := Topo.v7x

variable {F : FTy → Type} [FloatOps F]
-- ==== Proof.FrameKI.lean ====
/-
  The frame of `KernelIdeal`: the one pipeline's run, its body gone through once per grid point, and the contents it
  leaves in every array.

  The body loads the point's block, runs a counted loop of four effect-free trips over the haloed image, thresholds
  and counts, and stores the two results whole. The loop is the fold of one trip (`trip`) over the four trips
  (`layers`), so each output block is a function of the input block alone (`out1`, `out2`).
-/
module

public import proofs.«01_k».proof.Proof.Gen.KernelIdeal.Skeleton
public import proofs.«01_k».proof.Proof.Gen.KernelIdeal.Frame
public import Idealize.ShloMosaic.Lib.Claim
public import Idealize.ShloMosaic.Lib.Exec

@[expose] public section

-- membership in a rectangle of long axes recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The block's results as functions of the block -/

/-- The whole block. -/
abbrev whole : Rect S1x1x1024x1024 := Rect.unit (s := S1x1x1024x1024) ![0, 0, 0, 0] S1x1x1024x1024.size inb_S1x1x1024x1024_S1x1x1024x1024_0_0_0_0

/-- One trip of the loop: the convolution, then the maximum pooling, of the haloed image `y`. -/
def trip (y : FVec F S1072x1024 .f32) : FVec F S1072x1024 .f32 :=
  k0_pay16 (k0_pay12 (k0_pay3 y) (k0_pay5 y) (k0_pay6 y) (k0_pay8 y) (k0_pay9 y) (k0_pay10 y)) k0_pay13
    (k0_pay14 (k0_pay3 y) (k0_pay5 y) (k0_pay6 y) (k0_pay8 y) (k0_pay9 y) (k0_pay10 y))

/-- The haloed image after the loop. -/
def layers (x0 : Vec F S1x1x1024x1024 .f32) : FVec F S1072x1024 .f32 :=
  Scf.fold (n := k0_t1_loop.trips) (fun _ y => trip y) (k0_pay15 (View.ld x0 whole))

/-- What the body leaves in the first output's block. -/
def out1 (x0 : Vec F S1x1x1024x1024 .f32) : Vec F S1x1x1024x1024 .f32 :=
  View.canon [⟨whole, k0_pay1 (k0_pay18 (layers x0))⟩]

/-- What the body leaves in the second output's block. -/
def out2 (x0 : Vec F S1x1x1024x1024 .f32) : Vec F S1x1x1024x1024 .i8 :=
  View.canon [⟨whole, k0_pay2 (k0_pay17 (layers x0))⟩]

/-- The one store of the whole block covers it. -/
theorem cover_whole {e : EltTy} (p : Vec F S1x1x1024x1024 e) (y : S1x1x1024x1024.Idx) :
    ∃ pc ∈ ([⟨whole, p⟩] : List (View.Piece (Elt F) S1x1x1024x1024 e)), y ∈ pc.1.set :=
  View.cover_of_tiled [⟨whole, p⟩] S1x1x1024x1024.size (by rfl) y

/-! ## The body's triple -/

/-- The loop's region issues no effect, so the loop returns the fold of `trip`. -/
theorem loop_eq (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x1x1024x1024 .i8) (harg3 : arg3.IsWhole)
    (init : FVec F S1072x1024 .f32) :
    Scf.Loop.for k0_t1_loop k0_t1_ok init (k0_t1_body i arg1 harg1 arg2 harg2 arg3 harg3)
      = .ret (Scf.fold (n := k0_t1_loop.trips) (fun _ y => trip y) init) :=
  Scf.for_pure _ _ _ k0_t1_ok init (k0_t1_body i arg1 harg1 arg2 harg2 arg3 harg3) (fun _ y => trip y) fun k acc => by
    unfold k0_t1_body
    rw [k0_part1_eq_skeleton, k0_part2_eq_skeleton]
    rfl

set_option maxHeartbeats 1000000 in
/-- The kernel body on whole staging memrefs, the input's holding `x0`, runs to the continuation holding the input's as it
    was and the outputs' at `out1 x0` and `out2 x0`. -/
theorem sound_kernel (c : Dev nD) (E : Set ℕ) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x1x1024x1024 .i8) (harg3 : arg3.IsWhole)
    (x0 : Vec F S1x1x1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1 x0) ∗ owns (c : Thread nD τ) arg3 fullShare (out2 x0)) -∗ K ⟨⟩))
      ⊢ wp frame (wpE (defs₀ (F := F)) Variants.none c none) E (cc0__body i arg1 harg1 arg2 harg2 arg3 harg3) K := by
  simp only [cc0__body_eq_skeleton]; unfold cc0__body_skel
  simp only [k0_part3_eq_skeleton]; unfold k0_part3_skel
  simp only [loop_eq]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover_whole _)).trans ?_
    rfl
  iexists _; isplitr
  swap; · iexact H2
  ipureintro
  refine (View.read_writes_eq_canon _ _ _ (cover_whole _)).trans ?_
  rfl

/-! ## The pipeline's proof data -/

/-- The arrays as the region finds them; after the body the input's buffer at its block and each output's at its function
    of that block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out1 (iblk m c 0 t)
    | ⟨2, _⟩ => out2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out1 (iblk m c 0 t) := by dsimp only [dats]
theorem after0_2 (c : Dev nD) (t : Fin cfg0.N) : (dats m 0 c).after 2 t = out2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unifying the conclusion with this one, through plain definitions in a type
set_option backward.isDefEq.respectTransparency.types false in
set_option maxHeartbeats 800000 in
/-- The launch: every array at what the proof data says, every other buffer as the host lines leave it, counters zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Shift.lean ====
/-
  The kernel's shifts of the haloed image, and its setting of the halo rows, read at a position: the image on the plane
  of integer coordinates, with the fill value outside.
-/
module

public import proofs.«01_k».proof.Proof.Gen.KernelIdeal.Skeleton
public import Idealize.ShloMosaic.Lib.Pointwise

@[expose] public section

set_option maxRecDepth 16384

noncomputable section

namespace Cert.KernelIdeal.Shift

open Cert.KernelIdeal Cert.KernelIdeal.Gen
open Idealize.ShloMosaic

/-- The haloed image on the plane of integer coordinates: itself where it is defined, `z` outside. -/
def onPlane (z : EReal) (y : FVec Ideal S1072x1024 .f32) (r c : ℤ) : EReal :=
  if h : (0 ≤ r ∧ r < 1072) ∧ (0 ≤ c ∧ c < 1024) then y (ix2 ⟨r.toNat, by omega⟩ ⟨c.toNat, by omega⟩) else z

theorem left1 (z : EReal) (y : FVec Ideal S1072x1024 .f32) (r : Fin 1072) (c : Fin 1024) :
    (concatenate S1072x1024 1 [⟨S1072x1, broadcast S1072x1 z⟩, ⟨S1072x1023, extractStridedSlice S1072x1023 ![0, 0] y slices_S1072x1024_o0_0_S1072x1023⟩] concatenates_S1072x1_S1072x1023_S1072x1024_d1 : FVec Ideal S1072x1024 .f32) (ix2 r c) = onPlane z y (r : ℤ) ((c : ℤ) - 1) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem right1 (z : EReal) (y : FVec Ideal S1072x1024 .f32) (r : Fin 1072) (c : Fin 1024) :
    (concatenate S1072x1024 1 [⟨S1072x1023, extractStridedSlice S1072x1023 ![0, 1] y slices_S1072x1024_o0_1_S1072x1023⟩, ⟨S1072x1, broadcast S1072x1 z⟩] concatenates_S1072x1023_S1072x1_S1072x1024_d1 : FVec Ideal S1072x1024 .f32) (ix2 r c) = onPlane z y (r : ℤ) ((c : ℤ) + 1) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem left2 (z : EReal) (y : FVec Ideal S1072x1024 .f32) (r : Fin 1072) (c : Fin 1024) :
    (concatenate S1072x1024 1 [⟨S1072x2, broadcast S1072x2 z⟩, ⟨S1072x1022, extractStridedSlice S1072x1022 ![0, 0] y slices_S1072x1024_o0_0_S1072x1022⟩] concatenates_S1072x2_S1072x1022_S1072x1024_d1 : FVec Ideal S1072x1024 .f32) (ix2 r c) = onPlane z y (r : ℤ) ((c : ℤ) - 2) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem right2 (z : EReal) (y : FVec Ideal S1072x1024 .f32) (r : Fin 1072) (c : Fin 1024) :
    (concatenate S1072x1024 1 [⟨S1072x1022, extractStridedSlice S1072x1022 ![0, 2] y slices_S1072x1024_o0_2_S1072x1022⟩, ⟨S1072x2, broadcast S1072x2 z⟩] concatenates_S1072x1022_S1072x2_S1072x1024_d1 : FVec Ideal S1072x1024 .f32) (ix2 r c) = onPlane z y (r : ℤ) ((c : ℤ) + 2) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem left3 (z : EReal) (y : FVec Ideal S1072x1024 .f32) (r : Fin 1072) (c : Fin 1024) :
    (concatenate S1072x1024 1 [⟨S1072x3, broadcast S1072x3 z⟩, ⟨S1072x1021, extractStridedSlice S1072x1021 ![0, 0] y slices_S1072x1024_o0_0_S1072x1021⟩] concatenates_S1072x3_S1072x1021_S1072x1024_d1 : FVec Ideal S1072x1024 .f32) (ix2 r c) = onPlane z y (r : ℤ) ((c : ℤ) - 3) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem right3 (z : EReal) (y : FVec Ideal S1072x1024 .f32) (r : Fin 1072) (c : Fin 1024) :
    (concatenate S1072x1024 1 [⟨S1072x1021, extractStridedSlice S1072x1021 ![0, 3] y slices_S1072x1024_o0_3_S1072x1021⟩, ⟨S1072x3, broadcast S1072x3 z⟩] concatenates_S1072x1021_S1072x3_S1072x1024_d1 : FVec Ideal S1072x1024 .f32) (ix2 r c) = onPlane z y (r : ℤ) ((c : ℤ) + 3) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem up1 (z : EReal) (y : FVec Ideal S1072x1024 .f32) (r : Fin 1072) (c : Fin 1024) :
    (concatenate S1072x1024 0 [⟨S1x1024, broadcast S1x1024 z⟩, ⟨S1071x1024, extractStridedSlice S1071x1024 ![0, 0] y slices_S1072x1024_o0_0_S1071x1024⟩] concatenates_S1x1024_S1071x1024_S1072x1024_d0 : FVec Ideal S1072x1024 .f32) (ix2 r c) = onPlane z y ((r : ℤ) - 1) (c : ℤ) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem down1 (z : EReal) (y : FVec Ideal S1072x1024 .f32) (r : Fin 1072) (c : Fin 1024) :
    (concatenate S1072x1024 0 [⟨S1071x1024, extractStridedSlice S1071x1024 ![1, 0] y slices_S1072x1024_o1_0_S1071x1024⟩, ⟨S1x1024, broadcast S1x1024 z⟩] concatenates_S1071x1024_S1x1024_S1072x1024_d0 : FVec Ideal S1072x1024 .f32) (ix2 r c) = onPlane z y ((r : ℤ) + 1) (c : ℤ) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem up2 (z : EReal) (y : FVec Ideal S1072x1024 .f32) (r : Fin 1072) (c : Fin 1024) :
    (concatenate S1072x1024 0 [⟨S2x1024, broadcast S2x1024 z⟩, ⟨S1070x1024, extractStridedSlice S1070x1024 ![0, 0] y slices_S1072x1024_o0_0_S1070x1024⟩] concatenates_S2x1024_S1070x1024_S1072x1024_d0 : FVec Ideal S1072x1024 .f32) (ix2 r c) = onPlane z y ((r : ℤ) - 2) (c : ℤ) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem down2 (z : EReal) (y : FVec Ideal S1072x1024 .f32) (r : Fin 1072) (c : Fin 1024) :
    (concatenate S1072x1024 0 [⟨S1070x1024, extractStridedSlice S1070x1024 ![2, 0] y slices_S1072x1024_o2_0_S1070x1024⟩, ⟨S2x1024, broadcast S2x1024 z⟩] concatenates_S1070x1024_S2x1024_S1072x1024_d0 : FVec Ideal S1072x1024 .f32) (ix2 r c) = onPlane z y ((r : ℤ) + 2) (c : ℤ) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem up3 (z : EReal) (y : FVec Ideal S1072x1024 .f32) (r : Fin 1072) (c : Fin 1024) :
    (concatenate S1072x1024 0 [⟨S3x1024, broadcast S3x1024 z⟩, ⟨S1069x1024, extractStridedSlice S1069x1024 ![0, 0] y slices_S1072x1024_o0_0_S1069x1024⟩] concatenates_S3x1024_S1069x1024_S1072x1024_d0 : FVec Ideal S1072x1024 .f32) (ix2 r c) = onPlane z y ((r : ℤ) - 3) (c : ℤ) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

theorem down3 (z : EReal) (y : FVec Ideal S1072x1024 .f32) (r : Fin 1072) (c : Fin 1024) :
    (concatenate S1072x1024 0 [⟨S1069x1024, extractStridedSlice S1069x1024 ![3, 0] y slices_S1072x1024_o3_0_S1069x1024⟩, ⟨S3x1024, broadcast S3x1024 z⟩] concatenates_S1069x1024_S3x1024_S1072x1024_d0 : FVec Ideal S1072x1024 .f32) (ix2 r c) = onPlane z y ((r : ℤ) + 3) (c : ℤ) := by
  have hr := r.isLt
  have hc := c.isLt
  pointwise
  unfold onPlane
  (repeat' split) <;> first
    | rfl
    | (exfalso; omega)
    | exact congrArg y (congrArg₂ ix2 (Fin.ext (by (try dsimp only); omega)) (Fin.ext (by (try dsimp only); omega)))

/-- The halo rows set to `z`: the image in the middle rows, `z` above and below. -/
theorem halo (z : EReal) (y : FVec Ideal S1072x1024 .f32) (r : Fin 1072) (c : Fin 1024) :
    (concatenate S1072x1024 0 [⟨S24x1024, broadcast S24x1024 z⟩, ⟨S1024x1024, extractStridedSlice S1024x1024 ![24, 0] y slices_S1072x1024_o24_0_S1024x1024⟩, ⟨S24x1024, broadcast S24x1024 z⟩] concatenates_S24x1024_S1024x1024_S24x1024_S1072x1024_d0 : FVec Ideal S1072x1024 .f32) (ix2 r c)
      = if 24 ≤ r.val ∧ r.val < 1048 then y (ix2 r c) else z := by
  have hr := r.isLt
  have hc := c.isLt
  pointwise
  (repeat' split) <;> first
    | rfl
    | (exfalso; omega)
    | exact congrArg y (congrArg₂ ix2 (Fin.ext (by show 24 + (r.val - 24) = r.val; omega)) rfl)

end Cert.KernelIdeal.Shift

end
-- ==== Proof.Consts.lean ====
/-
  The real numbers that the two programs' constant words denote.
-/
module

public import Idealize.ShloMosaic.Lib.IdealHost

@[expose] public section

namespace Cert.Consts

open Idealize.ShloMosaic

theorem eighth : Ideal.ofBits .f32 0x3E000000#32 = ((1 / 8 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem sevenHalf : Ideal.ofBits .f32 0x40F00000#32 = ((15 / 2 : ℝ) : EReal) := by
  simp [Ideal.ofBits, Ideal.ieee, -EReal.coe_mul]; norm_num
theorem nine : Ideal.ofBits .f32 0x41100000#32 = ((9 : ℝ) : EReal) := by
  simp [Ideal.ofBits, Ideal.ieee, -EReal.coe_mul]; norm_num
theorem fourFifths : Ideal.ofBits .f32 0x3F4CCCCD#32 = ((13421773 / 16777216 : ℝ) : EReal) := by
  simp [Ideal.ofBits, Ideal.ieee, -EReal.coe_mul]; norm_num
theorem one24 : Ideal.ofBits .f32 0x3D2AAAAB#32 = ((11184811 / 268435456 : ℝ) : EReal) := by
  simp [Ideal.ofBits, Ideal.ieee, -EReal.coe_mul]; norm_num
theorem seven24 : Ideal.ofBits .f32 0xBE955555#32 = ((-(9786709 / 33554432) : ℝ) : EReal) := by
  simp [Ideal.ofBits, Ideal.ieee, -EReal.coe_mul]; norm_num
theorem negOne : Ideal.ofBits .f32 0xBF800000#32 = ((-1 : ℝ) : EReal) := by
  simp [Ideal.ofBits, Ideal.ieee, -EReal.coe_mul]; norm_num
theorem posInf : Ideal.ofBits .f32 0x7F800000#32 = ⊤ := by
  simp [Ideal.ofBits, Ideal.ieee]
theorem negInf : Ideal.ofBits .f32 0xFF800000#32 = ⊥ := by
  simp [Ideal.ofBits, Ideal.ieee]

end Cert.Consts

end
-- ==== Proof.Stencil.lean ====
/-
  The stencil, the pooling and the count as functions of an image on the plane of integer coordinates, and the facts
  about extended reals that make the kernel's grouping of the stencil's terms the reference's sum.

  An image is a function of a row and a column, read outside its 1024 x 1024 square as a fill value (`fill`). One layer
  is `layer`: the 49-term weighted sum of the zero-filled image, then the maximum of nine over the sums filled with
  negative infinity.
-/
module

public import Idealize.ShloMosaic.PureOps.Ideal
public import Mathlib.Data.EReal.Operations
public import Mathlib.Tactic.Ring
public import Mathlib.Tactic.NormNum
public import Mathlib.Tactic.IntervalCases

@[expose] public section

noncomputable section

namespace Cert.Stencil

/-- The square of the image's coordinates. -/
def Inside (r c : ℤ) : Prop := 0 ≤ r ∧ r < 1024 ∧ 0 ≤ c ∧ c < 1024

instance (r c : ℤ) : Decidable (Inside r c) := inferInstanceAs (Decidable (_ ∧ _ ∧ _ ∧ _))

/-- The image on the plane: itself in the square, `z` outside. -/
def fill (z : EReal) (u : ℤ → ℤ → EReal) (r c : ℤ) : EReal := if Inside r c then u r c else z

/-- The weight one over twenty-four, the single-precision number. -/
def w1 : EReal := ((11184811 / 268435456 : ℝ) : EReal)
/-- The weight three over twenty-four. -/
def w3 : EReal := ((1 / 8 : ℝ) : EReal)
/-- The weight seven over twenty-four, the single-precision number. -/
def w7 : EReal := ((9786709 / 33554432 : ℝ) : EReal)

/-- The filter. -/
def filter : ℕ → ℕ → EReal
  | 0, 2 => w1
  | 0, 3 => w1
  | 0, 4 => w1
  | 1, 1 => w1
  | 1, 2 => w3
  | 1, 3 => w3
  | 1, 4 => w3
  | 1, 5 => w1
  | 2, 0 => w1
  | 2, 1 => w3
  | 2, 3 => -w7
  | 2, 5 => w3
  | 3, 0 => w1
  | 3, 1 => w3
  | 3, 2 => -w7
  | 3, 3 => -1
  | 3, 4 => -w7
  | 3, 5 => w3
  | 3, 6 => w1
  | 4, 0 => w1
  | 4, 1 => w3
  | 4, 3 => -w7
  | 4, 5 => w3
  | 5, 1 => w1
  | 5, 2 => w3
  | 5, 3 => w3
  | 5, 4 => w3
  | 5, 5 => w1
  | 6, 2 => w1
  | 6, 3 => w1
  | 6, 4 => w1
  | _, _ => 0

/-- The 49-term weighted sum at one position, row after row. -/
def conv (k : ℕ → ℕ → EReal) (f : ℤ → ℤ → EReal) (r c : ℤ) : EReal :=
  0 + k 0 0 * f (r - 3) (c - 3) + k 0 1 * f (r - 3) (c - 2) + k 0 2 * f (r - 3) (c - 1) + k 0 3 * f (r - 3) c + k 0 4 * f (r - 3) (c + 1) + k 0 5 * f (r - 3) (c + 2) + k 0 6 * f (r - 3) (c + 3) + k 1 0 * f (r - 2) (c - 3) + k 1 1 * f (r - 2) (c - 2) + k 1 2 * f (r - 2) (c - 1) + k 1 3 * f (r - 2) c + k 1 4 * f (r - 2) (c + 1) + k 1 5 * f (r - 2) (c + 2) + k 1 6 * f (r - 2) (c + 3) + k 2 0 * f (r - 1) (c - 3) + k 2 1 * f (r - 1) (c - 2) + k 2 2 * f (r - 1) (c - 1) + k 2 3 * f (r - 1) c + k 2 4 * f (r - 1) (c + 1) + k 2 5 * f (r - 1) (c + 2) + k 2 6 * f (r - 1) (c + 3) + k 3 0 * f r (c - 3) + k 3 1 * f r (c - 2) + k 3 2 * f r (c - 1) + k 3 3 * f r c + k 3 4 * f r (c + 1) + k 3 5 * f r (c + 2) + k 3 6 * f r (c + 3) + k 4 0 * f (r + 1) (c - 3) + k 4 1 * f (r + 1) (c - 2) + k 4 2 * f (r + 1) (c - 1) + k 4 3 * f (r + 1) c + k 4 4 * f (r + 1) (c + 1) + k 4 5 * f (r + 1) (c + 2) + k 4 6 * f (r + 1) (c + 3) + k 5 0 * f (r + 2) (c - 3) + k 5 1 * f (r + 2) (c - 2) + k 5 2 * f (r + 2) (c - 1) + k 5 3 * f (r + 2) c + k 5 4 * f (r + 2) (c + 1) + k 5 5 * f (r + 2) (c + 2) + k 5 6 * f (r + 2) (c + 3) + k 6 0 * f (r + 3) (c - 3) + k 6 1 * f (r + 3) (c - 2) + k 6 2 * f (r + 3) (c - 1) + k 6 3 * f (r + 3) c + k 6 4 * f (r + 3) (c + 1) + k 6 5 * f (r + 3) (c + 2) + k 6 6 * f (r + 3) (c + 3)

/-- The same sum as the kernel groups it. -/
def grouped (f : ℤ → ℤ → EReal) (r c : ℤ) : EReal :=
  w1 * (((f (r - 3) (c - 1)) + (f (r - 3) (c + 1))) + f (r - 3) c) + w1 * (((f (r + 3) (c - 1)) + (f (r + 3) (c + 1))) + f (r + 3) c) + (w3 * (((f (r - 2) (c - 1)) + (f (r - 2) (c + 1))) + f (r - 2) c) + w1 * ((f (r - 2) (c - 2)) + (f (r - 2) (c + 2)))) + (w3 * (((f (r + 2) (c - 1)) + (f (r + 2) (c + 1))) + f (r + 2) c) + w1 * ((f (r + 2) (c - 2)) + (f (r + 2) (c + 2)))) + (w1 * f (r - 1) (c - 3) + w3 * ((f (r - 1) (c - 2)) + (f (r - 1) (c + 2))) - w7 * f (r - 1) c) + (w1 * f (r + 1) (c - 3) + w3 * ((f (r + 1) (c - 2)) + (f (r + 1) (c + 2))) - w7 * f (r + 1) c) + (w1 * (f r (c - 3) + f r (c + 3)) + w3 * ((f r (c - 2)) + (f r (c + 2))) - w7 * ((f r (c - 1)) + (f r (c + 1))) - f r c)

/-- The maximum of the three entries of a row around a position. -/
def pool1 (f : ℤ → ℤ → EReal) (r c : ℤ) : EReal := max (max (f r (c - 1)) (f r c)) (f r (c + 1))

/-- The maximum of the nine entries around a position. -/
def pool (f : ℤ → ℤ → EReal) (r c : ℤ) : EReal := max (max (pool1 f (r - 1) c) (pool1 f r c)) (pool1 f (r + 1) c)

/-- One layer. -/
def layer (u : ℤ → ℤ → EReal) : ℤ → ℤ → EReal := pool (fill ⊥ (conv filter (fill 0 u)))

/-- Every entry in the square is a real number. -/
def Finite (u : ℤ → ℤ → EReal) : Prop := ∀ r c, Inside r c → ∃ x : ℝ, u r c = (x : EReal)

/-- A finite image filled with zero is a real function on the plane. -/
theorem Finite.real {u : ℤ → ℤ → EReal} (h : Finite u) : ∃ g : ℤ → ℤ → ℝ, fill 0 u = fun r c => ((g r c : ℝ) : EReal) := by
  refine ⟨fun r c => (fill 0 u r c).toReal, funext fun r => funext fun c => ?_⟩
  show fill 0 u r c = (((fill 0 u r c).toReal : ℝ) : EReal)
  unfold fill
  split
  · next hi => obtain ⟨x, hx⟩ := h r c hi; rw [hx, EReal.toReal_coe]
  · rw [EReal.toReal_zero, EReal.coe_zero]

set_option maxHeartbeats 4000000 in
/-- The weighted sum of a real image is a real number, and it is the kernel's grouping of it. -/
theorem conv_real (g : ℤ → ℤ → ℝ) (r c : ℤ) :
    ∃ x : ℝ, conv filter (fun r c => ((g r c : ℝ) : EReal)) r c = (x : EReal)
      ∧ grouped (fun r c => ((g r c : ℝ) : EReal)) r c = (x : EReal) := by
  refine ⟨(11184811 / 268435456) * (((g (r - 3) (c - 1)) + (g (r - 3) (c + 1))) + g (r - 3) c) + (11184811 / 268435456) * (((g (r + 3) (c - 1)) + (g (r + 3) (c + 1))) + g (r + 3) c) + ((1 / 8) * (((g (r - 2) (c - 1)) + (g (r - 2) (c + 1))) + g (r - 2) c) + (11184811 / 268435456) * ((g (r - 2) (c - 2)) + (g (r - 2) (c + 2)))) + ((1 / 8) * (((g (r + 2) (c - 1)) + (g (r + 2) (c + 1))) + g (r + 2) c) + (11184811 / 268435456) * ((g (r + 2) (c - 2)) + (g (r + 2) (c + 2)))) + ((11184811 / 268435456) * g (r - 1) (c - 3) + (1 / 8) * ((g (r - 1) (c - 2)) + (g (r - 1) (c + 2))) - (9786709 / 33554432) * g (r - 1) c) + ((11184811 / 268435456) * g (r + 1) (c - 3) + (1 / 8) * ((g (r + 1) (c - 2)) + (g (r + 1) (c + 2))) - (9786709 / 33554432) * g (r + 1) c) + ((11184811 / 268435456) * (g r (c - 3) + g r (c + 3)) + (1 / 8) * ((g r (c - 2)) + (g r (c + 2))) - (9786709 / 33554432) * ((g r (c - 1)) + (g r (c + 1))) - g r c), ?_, ?_⟩
  rotate_left
  · simp only [grouped, w1, w3, w7, ← EReal.coe_mul, ← EReal.coe_add, ← EReal.coe_sub]
  · simp only [conv, filter, w1, w3, w7, ← EReal.coe_mul, ← EReal.coe_add, ← EReal.coe_neg, ← EReal.coe_one, ← EReal.coe_zero]
    refine congrArg _ ?_
    ring

/-- For a finite image the kernel's grouping is the weighted sum. -/
theorem grouped_eq {u : ℤ → ℤ → EReal} (h : Finite u) (r c : ℤ) : grouped (fill 0 u) r c = conv filter (fill 0 u) r c := by
  obtain ⟨g, hg⟩ := h.real
  rw [hg]
  obtain ⟨x, h1, h2⟩ := conv_real g r c
  rw [h1, h2]

/-- A maximum of numbers below positive infinity, one of them above negative infinity, is a real number. -/
theorem real_of_ne {x : EReal} (h1 : x ≠ ⊤) (h2 : x ≠ ⊥) : ∃ y : ℝ, x = (y : EReal) := ⟨x.toReal, (EReal.coe_toReal h1 h2).symm⟩

/-- A layer of a finite image is finite. -/
theorem Finite.layer {u : ℤ → ℤ → EReal} (h : Finite u) : Finite (layer u) := by
  obtain ⟨g, hg⟩ := h.real
  intro r c hi
  have hv : ∀ r c, ∃ x : ℝ, conv filter (fill 0 u) r c = (x : EReal) := fun r c => by
    rw [hg]; obtain ⟨x, h1, -⟩ := conv_real g r c; exact ⟨x, h1⟩
  have hlt : ∀ r c, fill ⊥ (conv filter (fill 0 u)) r c < ⊤ := fun r c => by
    unfold fill
    split
    · obtain ⟨x, hx⟩ := hv r c
      have : conv filter (fill 0 u) r c < ⊤ := by rw [hx]; exact EReal.coe_lt_top x
      exact this
    · exact bot_lt_top
  have hc : ⊥ < fill ⊥ (conv filter (fill 0 u)) r c := by
    obtain ⟨x, hx⟩ := hv r c
    have : ⊥ < conv filter (fill 0 u) r c := by rw [hx]; exact EReal.bot_lt_coe x
    rw [fill, if_pos hi]
    exact this
  refine real_of_ne (ne_of_lt ?_) (ne_of_gt ?_)
  · simp only [Stencil.layer, pool, pool1, max_lt_iff]
    simp only [hlt, and_self]
  · refine lt_of_lt_of_le hc ?_
    simp only [Stencil.layer, pool, pool1, le_max_iff, le_refl, true_or, or_true]

/-- Layers of a finite image are finite. -/
theorem Finite.iterate {u : ℤ → ℤ → EReal} (h : Finite u) : ∀ n, Finite (Stencil.layer^[n] u)
  | 0 => h
  | n + 1 => by rw [Function.iterate_succ_apply']; exact (Finite.iterate h n).layer

/-- Images that agree in the square have the same filling. -/
theorem fill_congr {z : EReal} {u v : ℤ → ℤ → EReal} (h : ∀ r c, Inside r c → u r c = v r c) : fill z u = fill z v := by
  funext r c
  unfold fill
  split
  · next hi => exact h r c hi
  · rfl

end Cert.Stencil

end
-- ==== Proof.Step.lean ====
/-
  One trip of the kernel's loop on a finite image is one layer of the stencil and the pooling.

  The haloed image holds an image in its middle rows (`Holds`); what its halo rows hold is nothing's business, since each
  trip sets them before it reads them.
-/
module

public import proofs.«01_k».proof.Proof.Shift
public import proofs.«01_k».proof.Proof.Consts
public import proofs.«01_k».proof.Proof.Stencil
public import proofs.«01_k».proof.Proof.FrameKI

@[expose] public section

set_option maxRecDepth 16384

noncomputable section

namespace Cert.KernelIdeal.Step

open Cert.KernelIdeal Cert.KernelIdeal.Gen Cert.KernelIdeal.Run Cert.KernelIdeal.Shift Cert.Stencil
open Idealize.ShloMosaic

/-- The middle rows of `y` are the image `u`. -/
def Holds (y : FVec Ideal S1072x1024 .f32) (u : ℤ → ℤ → EReal) : Prop :=
  ∀ (r : Fin 1072) (c : Fin 1024), 24 ≤ r.val → r.val < 1048 → y (ix2 r c) = u ((r : ℤ) - 24) c

theorem zero_eq : (Scalar.ofBits .f32 0x00000000#32 : Ideal .f32) = (0 : EReal) := Ideal.ofBits_zero_f32
theorem eighth_eq : (Scalar.ofBits .f32 0x3E000000#32 : Ideal .f32) = w3 := by
  exact Cert.Consts.eighth
theorem half_eq : (Scalar.ofBits .f32 0x3F000000#32 : Ideal .f32) = ((1 / 2 : ℝ) : EReal) := Cert.Consts.half
theorem w1_eq : (Named.named κ "w1" 0x3D2B0000#32 : Ideal .f32) = w1 := rfl
theorem w7_eq : (Named.named κ "w7" 0x3E950000#32 : Ideal .f32) = w7 := rfl
theorem bot_eq : (Named.named κ "neg_inf" 0xF149F2CA#32 : Ideal .f32) = (⊥ : EReal) := rfl

/-- A haloed image known at every position, on the plane. -/
theorem onPlane_of {z : EReal} {v : FVec Ideal S1072x1024 .f32} {f : ℤ → ℤ → EReal} (h : ∀ (r : Fin 1072) (c : Fin 1024), v (ix2 r c) = f ((r : ℤ) - 24) c)
    (r c : ℤ) (hr : 0 ≤ r ∧ r < 1072) (hc : 0 ≤ c ∧ c < 1024) : onPlane z v r c = f (r - 24) c := by
  rw [onPlane, dif_pos ⟨hr, hc⟩, h]
  congr 1 <;> (try dsimp only) <;> omega

/-- A haloed image that is a filled image at every position is that filled image on the plane. -/
theorem onPlane_fill {z : EReal} {v : FVec Ideal S1072x1024 .f32} {u : ℤ → ℤ → EReal} (h : ∀ (r : Fin 1072) (c : Fin 1024), v (ix2 r c) = fill z u ((r : ℤ) - 24) c)
    (r c : ℤ) : onPlane z v r c = fill z u (r - 24) c := by
  by_cases hi : (0 ≤ r ∧ r < 1072) ∧ (0 ≤ c ∧ c < 1024)
  · exact onPlane_of h r c hi.1 hi.2
  · rw [onPlane, dif_neg hi, fill, if_neg]
    unfold Inside
    omega

section
variable {y : FVec Ideal S1072x1024 .f32} {u : ℤ → ℤ → EReal} (h : Holds y u)
include h

theorem pay3_at (r : Fin 1072) (c : Fin 1024) : k0_pay3 (F := Ideal) y (ix2 r c) = fill 0 u ((r : ℤ) - 24) c := by
  have e : k0_pay3 (F := Ideal) y (ix2 r c) = if 24 ≤ r.val ∧ r.val < 1048 then y (ix2 r c) else (Scalar.ofBits .f32 0x00000000#32 : Ideal .f32) :=
    halo _ y r c
  have hc := c.isLt
  rw [e, zero_eq, fill]
  by_cases hi : 24 ≤ r.val ∧ r.val < 1048
  · rw [if_pos hi, if_pos (by unfold Inside; omega)]
    exact h r c hi.1 hi.2
  · rw [if_neg hi, if_neg (by unfold Inside; omega)]

theorem plane3 (r c : ℤ) : onPlane (Scalar.ofBits .f32 0x00000000#32 : Ideal .f32) (k0_pay3 (F := Ideal) y) r c = fill 0 u (r - 24) c := by
  rw [zero_eq]
  exact onPlane_fill (pay3_at h) r c

theorem pay4_at (r : Fin 1072) (c : Fin 1024) : k0_pay4 (F := Ideal) y (ix2 r c) = fill 0 u ((r : ℤ) - 24) ((c : ℤ) - 3) :=
  (left3 _ _ r c).trans (plane3 h _ _)

theorem pay5_at (r : Fin 1072) (c : Fin 1024) :
    (k0_pay5 (F := Ideal) y (ix2 r c) : EReal) = (fill 0 u ((r : ℤ) - 24) ((c : ℤ) - 1)) + (fill 0 u ((r : ℤ) - 24) ((c : ℤ) + 1)) :=
  congrArg₂ (fun a b : EReal => a + b) ((left1 _ _ r c).trans (plane3 h _ _)) ((right1 _ _ r c).trans (plane3 h _ _))

theorem pay6_at (r : Fin 1072) (c : Fin 1024) :
    (k0_pay6 (F := Ideal) y (ix2 r c) : EReal)
      = ((fill 0 u ((r : ℤ) - 24) ((c : ℤ) - 1)) + (fill 0 u ((r : ℤ) - 24) ((c : ℤ) + 1))) + fill 0 u ((r : ℤ) - 24) c :=
  congrArg₂ (fun a b : EReal => a + b) (pay5_at h r c) (pay3_at h r c)

theorem pay7_at (r : Fin 1072) (c : Fin 1024) :
    (k0_pay7 (F := Ideal) y (ix2 r c) : EReal) = (fill 0 u ((r : ℤ) - 24) ((c : ℤ) - 2)) + (fill 0 u ((r : ℤ) - 24) ((c : ℤ) + 2)) :=
  congrArg₂ (fun a b : EReal => a + b) ((left2 _ _ r c).trans (plane3 h _ _)) ((right2 _ _ r c).trans (plane3 h _ _))

theorem pay8_at (r : Fin 1072) (c : Fin 1024) :
    (k0_pay8 (F := Ideal) y (ix2 r c) : EReal)
      = w3 * (((fill 0 u ((r : ℤ) - 24) ((c : ℤ) - 1)) + (fill 0 u ((r : ℤ) - 24) ((c : ℤ) + 1))) + fill 0 u ((r : ℤ) - 24) c)
        + w1 * ((fill 0 u ((r : ℤ) - 24) ((c : ℤ) - 2)) + (fill 0 u ((r : ℤ) - 24) ((c : ℤ) + 2))) :=
  congrArg₂ (fun a b : EReal => a + b) (congrArg₂ (fun a b : EReal => a * b) eighth_eq (pay6_at h r c)) (congrArg₂ (fun a b : EReal => a * b) w1_eq (pay7_at h r c))

theorem pay9_at (r : Fin 1072) (c : Fin 1024) :
    (k0_pay9 (F := Ideal) y (ix2 r c) : EReal)
      = w1 * fill 0 u ((r : ℤ) - 24) ((c : ℤ) - 3)
        + w3 * ((fill 0 u ((r : ℤ) - 24) ((c : ℤ) - 2)) + (fill 0 u ((r : ℤ) - 24) ((c : ℤ) + 2)))
        - w7 * fill 0 u ((r : ℤ) - 24) c :=
  congrArg₂ (fun a b : EReal => a - b)
    (congrArg₂ (fun a b : EReal => a + b) (congrArg₂ (fun a b : EReal => a * b) w1_eq (pay4_at h r c)) (congrArg₂ (fun a b : EReal => a * b) eighth_eq (pay7_at h r c)))
    (congrArg₂ (fun a b : EReal => a * b) w7_eq (pay3_at h r c))

theorem pay10_at (r : Fin 1072) (c : Fin 1024) :
    (k0_pay10 (F := Ideal) y (ix2 r c) : EReal)
      = w1 * (fill 0 u ((r : ℤ) - 24) ((c : ℤ) - 3) + fill 0 u ((r : ℤ) - 24) ((c : ℤ) + 3))
        + w3 * ((fill 0 u ((r : ℤ) - 24) ((c : ℤ) - 2)) + (fill 0 u ((r : ℤ) - 24) ((c : ℤ) + 2))) :=
  congrArg₂ (fun a b : EReal => a + b)
    (congrArg₂ (fun a b : EReal => a * b) w1_eq (congrArg₂ (fun a b : EReal => a + b) (pay4_at h r c) ((right3 _ _ r c).trans (plane3 h _ _))))
    (congrArg₂ (fun a b : EReal => a * b) eighth_eq (pay7_at h r c))

end

/-- The kernel's grouping of the weighted sum, before the halo rows are set. -/
def sums (y : FVec Ideal S1072x1024 .f32) : FVec Ideal S1072x1024 .f32 :=
  addf (addf (addf (addf (addf (addf (concatenate S1072x1024 0 [⟨S3x1024, broadcast S3x1024 (Scalar.ofBits .f32 0x00000000#32 : Ideal .f32)⟩, ⟨S1069x1024, extractStridedSlice S1069x1024 ![0, 0] (mulf (broadcast S1072x1024 (Named.named κ "w1" 0x3D2B0000#32 : Ideal .f32)) (k0_pay6 y)) slices_S1072x1024_o0_0_S1069x1024⟩] concatenates_S3x1024_S1069x1024_S1072x1024_d0 : FVec Ideal S1072x1024 .f32)
    (concatenate S1072x1024 0 [⟨S1069x1024, extractStridedSlice S1069x1024 ![3, 0] (mulf (broadcast S1072x1024 (Named.named κ "w1" 0x3D2B0000#32 : Ideal .f32)) (k0_pay6 y)) slices_S1072x1024_o3_0_S1069x1024⟩, ⟨S3x1024, broadcast S3x1024 (Scalar.ofBits .f32 0x00000000#32 : Ideal .f32)⟩] concatenates_S1069x1024_S3x1024_S1072x1024_d0 : FVec Ideal S1072x1024 .f32))
    (concatenate S1072x1024 0 [⟨S2x1024, broadcast S2x1024 (Scalar.ofBits .f32 0x00000000#32 : Ideal .f32)⟩, ⟨S1070x1024, extractStridedSlice S1070x1024 ![0, 0] (k0_pay8 y) slices_S1072x1024_o0_0_S1070x1024⟩] concatenates_S2x1024_S1070x1024_S1072x1024_d0 : FVec Ideal S1072x1024 .f32))
    (concatenate S1072x1024 0 [⟨S1070x1024, extractStridedSlice S1070x1024 ![2, 0] (k0_pay8 y) slices_S1072x1024_o2_0_S1070x1024⟩, ⟨S2x1024, broadcast S2x1024 (Scalar.ofBits .f32 0x00000000#32 : Ideal .f32)⟩] concatenates_S1070x1024_S2x1024_S1072x1024_d0 : FVec Ideal S1072x1024 .f32))
    (concatenate S1072x1024 0 [⟨S1x1024, broadcast S1x1024 (Scalar.ofBits .f32 0x00000000#32 : Ideal .f32)⟩, ⟨S1071x1024, extractStridedSlice S1071x1024 ![0, 0] (k0_pay9 y) slices_S1072x1024_o0_0_S1071x1024⟩] concatenates_S1x1024_S1071x1024_S1072x1024_d0 : FVec Ideal S1072x1024 .f32))
    (concatenate S1072x1024 0 [⟨S1071x1024, extractStridedSlice S1071x1024 ![1, 0] (k0_pay9 y) slices_S1072x1024_o1_0_S1071x1024⟩, ⟨S1x1024, broadcast S1x1024 (Scalar.ofBits .f32 0x00000000#32 : Ideal .f32)⟩] concatenates_S1071x1024_S1x1024_S1072x1024_d0 : FVec Ideal S1072x1024 .f32))
    (subf (subf (k0_pay10 y) (mulf (broadcast S1072x1024 (Named.named κ "w7" 0x3E950000#32 : Ideal .f32)) (k0_pay5 y))) (k0_pay3 y))

section
variable {y : FVec Ideal S1072x1024 .f32} {u : ℤ → ℤ → EReal} (h : Holds y u)
include h

/-- In the middle rows it is the grouped sum of the zero-filled image. -/
theorem sums_at (r : Fin 1072) (c : Fin 1024) (h1 : 24 ≤ r.val) (h2 : r.val < 1048) :
    sums y (ix2 r c) = grouped (fill 0 u) ((r : ℤ) - 24) c := by
  have hc := c.isLt
  have p3 : ∀ r' : ℤ, (0 ≤ r' ∧ r' < 1072) → onPlane (Scalar.ofBits .f32 0x00000000#32 : Ideal .f32) (mulf (broadcast S1072x1024 (Named.named κ "w1" 0x3D2B0000#32 : Ideal .f32)) (k0_pay6 y)) r' c
      = w1 * (((fill 0 u (r' - 24) ((c : ℤ) - 1)) + (fill 0 u (r' - 24) ((c : ℤ) + 1))) + fill 0 u (r' - 24) c) := fun r' hr' =>
    onPlane_of (f := fun r c : ℤ => w1 * (((fill 0 u r (c - 1)) + (fill 0 u r (c + 1))) + fill 0 u r c))
      (fun r c => congrArg₂ (fun a b : EReal => a * b) w1_eq (pay6_at h r c)) r' c hr' (by omega)
  have p2 : ∀ r' : ℤ, (0 ≤ r' ∧ r' < 1072) → onPlane (Scalar.ofBits .f32 0x00000000#32 : Ideal .f32) (k0_pay8 (F := Ideal) y) r' c
      = w3 * (((fill 0 u (r' - 24) ((c : ℤ) - 1)) + (fill 0 u (r' - 24) ((c : ℤ) + 1))) + fill 0 u (r' - 24) c)
        + w1 * ((fill 0 u (r' - 24) ((c : ℤ) - 2)) + (fill 0 u (r' - 24) ((c : ℤ) + 2))) := fun r' hr' =>
    onPlane_of (f := fun r c : ℤ => w3 * (((fill 0 u r (c - 1)) + (fill 0 u r (c + 1))) + fill 0 u r c)
      + w1 * ((fill 0 u r (c - 2)) + (fill 0 u r (c + 2)))) (pay8_at h) r' c hr' (by omega)
  have p1 : ∀ r' : ℤ, (0 ≤ r' ∧ r' < 1072) → onPlane (Scalar.ofBits .f32 0x00000000#32 : Ideal .f32) (k0_pay9 (F := Ideal) y) r' c
      = w1 * fill 0 u (r' - 24) ((c : ℤ) - 3) + w3 * ((fill 0 u (r' - 24) ((c : ℤ) - 2)) + (fill 0 u (r' - 24) ((c : ℤ) + 2)))
        - w7 * fill 0 u (r' - 24) c := fun r' hr' =>
    onPlane_of (f := fun r c : ℤ => w1 * fill 0 u r (c - 3) + w3 * ((fill 0 u r (c - 2)) + (fill 0 u r (c + 2))) - w7 * fill 0 u r c)
      (pay9_at h) r' c hr' (by omega)
  have e1 := (up3 (Scalar.ofBits .f32 0x00000000#32 : Ideal .f32) (mulf (broadcast S1072x1024 (Named.named κ "w1" 0x3D2B0000#32 : Ideal .f32)) (k0_pay6 y)) r c).trans (p3 _ (by omega))
  have e2 := (down3 (Scalar.ofBits .f32 0x00000000#32 : Ideal .f32) (mulf (broadcast S1072x1024 (Named.named κ "w1" 0x3D2B0000#32 : Ideal .f32)) (k0_pay6 y)) r c).trans (p3 _ (by omega))
  have e3 := (up2 (Scalar.ofBits .f32 0x00000000#32 : Ideal .f32) (k0_pay8 (F := Ideal) y) r c).trans (p2 _ (by omega))
  have e4 := (down2 (Scalar.ofBits .f32 0x00000000#32 : Ideal .f32) (k0_pay8 (F := Ideal) y) r c).trans (p2 _ (by omega))
  have e5 := (up1 (Scalar.ofBits .f32 0x00000000#32 : Ideal .f32) (k0_pay9 (F := Ideal) y) r c).trans (p1 _ (by omega))
  have e6 := (down1 (Scalar.ofBits .f32 0x00000000#32 : Ideal .f32) (k0_pay9 (F := Ideal) y) r c).trans (p1 _ (by omega))
  have e7 := congrArg₂ (fun a b : EReal => a - b) (congrArg₂ (fun a b : EReal => a - b) (pay10_at h r c)
    (congrArg₂ (fun a b : EReal => a * b) w7_eq (pay5_at h r c))) (pay3_at h r c)
  have add := @congrArg₂ EReal EReal EReal (fun a b => a + b)
  have e : sums y (ix2 r c) = _ := add (add (add (add (add (add e1 e2) e3) e4) e5) e6) e7
  rw [e]
  simp only [grouped, show (r : ℤ) - 3 - 24 = (r : ℤ) - 24 - 3 by ring, show (r : ℤ) + 3 - 24 = (r : ℤ) - 24 + 3 by ring, show (r : ℤ) - 2 - 24 = (r : ℤ) - 24 - 2 by ring, show (r : ℤ) + 2 - 24 = (r : ℤ) - 24 + 2 by ring, show (r : ℤ) - 1 - 24 = (r : ℤ) - 24 - 1 by ring, show (r : ℤ) + 1 - 24 = (r : ℤ) - 24 + 1 by ring]

end

/-- The grouped sums with the halo rows set to −∞. -/
def masked (y : FVec Ideal S1072x1024 .f32) : FVec Ideal S1072x1024 .f32 :=
  concatenate S1072x1024 0 [⟨S24x1024, broadcast S24x1024 (Named.named κ "neg_inf" 0xF149F2CA#32 : Ideal .f32)⟩, ⟨S1024x1024, extractStridedSlice S1024x1024 ![24, 0] (sums y) slices_S1072x1024_o24_0_S1024x1024⟩, ⟨S24x1024, broadcast S24x1024 (Named.named κ "neg_inf" 0xF149F2CA#32 : Ideal .f32)⟩] concatenates_S24x1024_S1024x1024_S24x1024_S1072x1024_d0

/-- The maximum along the rows, of three neighbouring columns. -/
def rowMax (y : FVec Ideal S1072x1024 .f32) : FVec Ideal S1072x1024 .f32 :=
  maximumf (maximumf
    (concatenate S1072x1024 1 [⟨S1072x1, broadcast S1072x1 (Named.named κ "neg_inf" 0xF149F2CA#32 : Ideal .f32)⟩, ⟨S1072x1023, extractStridedSlice S1072x1023 ![0, 0] (masked y) slices_S1072x1024_o0_0_S1072x1023⟩] concatenates_S1072x1_S1072x1023_S1072x1024_d1 : FVec Ideal S1072x1024 .f32)
    (masked y))
    (concatenate S1072x1024 1 [⟨S1072x1023, extractStridedSlice S1072x1023 ![0, 1] (masked y) slices_S1072x1024_o0_1_S1072x1023⟩, ⟨S1072x1, broadcast S1072x1 (Named.named κ "neg_inf" 0xF149F2CA#32 : Ideal .f32)⟩] concatenates_S1072x1023_S1072x1_S1072x1024_d1 : FVec Ideal S1072x1024 .f32)

/-- One trip is the maximum of three neighbouring rows of it. -/
theorem trip_eq (y : FVec Ideal S1072x1024 .f32) : trip y = maximumf (maximumf
    (concatenate S1072x1024 0 [⟨S1x1024, broadcast S1x1024 (Named.named κ "neg_inf" 0xF149F2CA#32 : Ideal .f32)⟩, ⟨S1071x1024, extractStridedSlice S1071x1024 ![0, 0] (rowMax y) slices_S1072x1024_o0_0_S1071x1024⟩] concatenates_S1x1024_S1071x1024_S1072x1024_d0 : FVec Ideal S1072x1024 .f32)
    (rowMax y))
    (concatenate S1072x1024 0 [⟨S1071x1024, extractStridedSlice S1071x1024 ![1, 0] (rowMax y) slices_S1072x1024_o1_0_S1071x1024⟩, ⟨S1x1024, broadcast S1x1024 (Named.named κ "neg_inf" 0xF149F2CA#32 : Ideal .f32)⟩] concatenates_S1071x1024_S1x1024_S1072x1024_d0 : FVec Ideal S1072x1024 .f32) := rfl

section
variable {y : FVec Ideal S1072x1024 .f32} {u : ℤ → ℤ → EReal} (h : Holds y u)
include h

theorem masked_at (r : Fin 1072) (c : Fin 1024) :
    masked y (ix2 r c) = fill ⊥ (grouped (fill 0 u)) ((r : ℤ) - 24) c := by
  have hc := c.isLt
  have e : masked y (ix2 r c) = if 24 ≤ r.val ∧ r.val < 1048 then sums y (ix2 r c) else (Named.named κ "neg_inf" 0xF149F2CA#32 : Ideal .f32) := halo _ (sums y) r c
  rw [e, bot_eq, fill]
  by_cases hi : 24 ≤ r.val ∧ r.val < 1048
  · rw [if_pos hi, if_pos (by unfold Inside; omega)]
    exact sums_at h r c hi.1 hi.2
  · rw [if_neg hi, if_neg (by unfold Inside; omega)]

theorem planeMasked (r c : ℤ) : onPlane (Named.named κ "neg_inf" 0xF149F2CA#32 : Ideal .f32) (masked y) r c = fill ⊥ (grouped (fill 0 u)) (r - 24) c := by
  rw [bot_eq]
  exact onPlane_fill (masked_at h) r c

theorem rowMax_at (r : Fin 1072) (c : Fin 1024) :
    rowMax y (ix2 r c) = pool1 (fill ⊥ (grouped (fill 0 u))) ((r : ℤ) - 24) c :=
  congrArg₂ (fun a b : EReal => max a b) (congrArg₂ (fun a b : EReal => max a b)
    ((left1 _ (masked y) r c).trans (planeMasked h _ _)) (masked_at h r c)) ((right1 _ (masked y) r c).trans (planeMasked h _ _))

/-- One trip takes a haloed image that holds a finite image to one that holds its layer. -/
theorem trip_holds (hu : Finite u) : Holds (trip y) (Stencil.layer u) := by
  intro r c h1 h2
  have hc := c.isLt
  have p : ∀ r' : ℤ, (0 ≤ r' ∧ r' < 1072) → onPlane (Named.named κ "neg_inf" 0xF149F2CA#32 : Ideal .f32) (rowMax y) r' c = pool1 (fill ⊥ (grouped (fill 0 u))) (r' - 24) c := fun r' hr' =>
    onPlane_of (rowMax_at h) r' c hr' (by omega)
  have g : grouped (fill 0 u) = conv filter (fill 0 u) := by
    funext r c
    exact grouped_eq hu r c
  have mx := @congrArg₂ EReal EReal EReal (fun a b => max a b)
  have e : trip y (ix2 r c) = _ := (congrFun (trip_eq y) _).trans
    (mx (mx ((up1 (Named.named κ "neg_inf" 0xF149F2CA#32 : Ideal .f32) (rowMax y) r c).trans (p _ (by omega))) (rowMax_at h r c)) ((down1 (Named.named κ "neg_inf" 0xF149F2CA#32 : Ideal .f32) (rowMax y) r c).trans (p _ (by omega))))
  rw [e, g, show (r : ℤ) - 1 - 24 = (r : ℤ) - 24 - 1 by ring, show (r : ℤ) + 1 - 24 = (r : ℤ) - 24 + 1 by ring]
  rfl

end

end Cert.KernelIdeal.Step

end
-- ==== Proof.Count.lean ====
/-
  The two readings of the last filter: the kernel counts the ones among nine neighbours and compares the count with 7.5;
  the reference divides the same count by nine and compares the mean with the single-precision number next to 0.8. Both
  hold exactly when at least eight of the nine are ones.
-/
module

public import proofs.«01_k».proof.Proof.Stencil

@[expose] public section

noncomputable section

namespace Cert.Stencil

open Idealize.ShloMosaic

/-- One where the image is over a half, zero elsewhere. -/
def bit (v : ℤ → ℤ → EReal) (r c : ℤ) : EReal := if ((1 / 2 : ℝ) : EReal) < v r c then 1 else 0

/-- The sum of the three entries of a row around a position. -/
def sum1 (f : ℤ → ℤ → EReal) (r c : ℤ) : EReal := (f r (c - 1) + f r c) + f r (c + 1)

/-- The sum of the nine entries around a position, grouped by rows. -/
def total (f : ℤ → ℤ → EReal) (r c : ℤ) : EReal := (sum1 f (r - 1) c + sum1 f r c) + sum1 f (r + 1) c

/-- The same sum, entry after entry from zero. -/
def spread (f : ℤ → ℤ → EReal) (r c : ℤ) : EReal :=
  0 + f (r - 1) (c - 1) + f (r - 1) c + f (r - 1) (c + 1) + f r (c - 1) + f r c + f r (c + 1) + f (r + 1) (c - 1) + f (r + 1) c + f (r + 1) (c + 1)

/-- The position has at least eight ones around it. -/
def Hit (v : ℤ → ℤ → EReal) (r c : ℤ) : Prop := ((15 / 2 : ℝ) : EReal) < total (fill 0 (bit v)) r c

/-- Addition of extended reals is associative and commutative, so the two sums agree. -/
theorem spread_eq (f : ℤ → ℤ → EReal) (r c : ℤ) : spread f r c = total f r c := by
  simp only [spread, total, sum1, zero_add, add_assoc]

/-- Every entry of the filled zero-one image is the number zero or one. -/
theorem bit_nat (v : ℤ → ℤ → EReal) (r c : ℤ) : ∃ n : ℕ, n ≤ 1 ∧ fill 0 (bit v) r c = ((n : ℝ) : EReal) := by
  unfold fill bit
  split
  · split
    · exact ⟨1, le_refl _, by simp⟩
    · exact ⟨0, by omega, by simp⟩
  · exact ⟨0, by omega, by simp⟩

/-- The count is a natural number. -/
theorem total_nat (v : ℤ → ℤ → EReal) (r c : ℤ) : ∃ n : ℕ, n ≤ 9 ∧ total (fill 0 (bit v)) r c = ((n : ℝ) : EReal) := by
  have row : ∀ r : ℤ, ∃ n : ℕ, n ≤ 3 ∧ sum1 (fill 0 (bit v)) r c = ((n : ℝ) : EReal) := fun r => by
    obtain ⟨a, ha, ea⟩ := bit_nat v r (c - 1)
    obtain ⟨b, hb, eb⟩ := bit_nat v r c
    obtain ⟨d, hd, ed⟩ := bit_nat v r (c + 1)
    exact ⟨a + b + d, by omega, by rw [sum1, ea, eb, ed]; push_cast; rfl⟩
  obtain ⟨a, ha, ea⟩ := row (r - 1)
  obtain ⟨b, hb, eb⟩ := row r
  obtain ⟨d, hd, ed⟩ := row (r + 1)
  exact ⟨a + b + d, by omega, by rw [total, ea, eb, ed]; push_cast; rfl⟩

/-- The mean is over the threshold exactly at a hit. -/
theorem mean_iff (v : ℤ → ℤ → EReal) (r c : ℤ) :
    ((13421773 / 16777216 : ℝ) : EReal) < Ideal.div (spread (fill 0 (bit v)) r c) ((9 : ℝ) : EReal) ↔ Hit v r c := by
  obtain ⟨n, hn, e⟩ := total_nat v r c
  rw [Hit, spread_eq, e, Idealize.ShloMosaic.Ideal.div_coe (by norm_num), ← EReal.coe_mul, EReal.coe_lt_coe_iff, EReal.coe_lt_coe_iff]
  interval_cases n <;> norm_num

/-- A function of row and column on the plane of integer coordinates, zero outside the square. -/
def plane (g : Fin 1024 → Fin 1024 → EReal) (r c : ℤ) : EReal :=
  if h : Inside r c then g ⟨r.toNat, by unfold Inside at h; omega⟩ ⟨c.toNat, by unfold Inside at h; omega⟩ else 0

theorem plane_at (g : Fin 1024 → Fin 1024 → EReal) (r c : Fin 1024) : plane g r c = g r c := by
  have hr := r.isLt
  have hc := c.isLt
  rw [plane, dif_pos (by unfold Inside; omega)]
  rfl

/-- It is finite if the function is. -/
theorem plane_finite {g : Fin 1024 → Fin 1024 → EReal} (h : ∀ r c, ∃ x : ℝ, g r c = (x : EReal)) : Finite (plane g) := by
  intro r c hi
  rw [plane, dif_pos hi]
  exact h _ _

end Cert.Stencil

end
-- ==== Proof.Hits.lean ====
/-
  What the kernel's body leaves in its two result blocks: at each position whether at least eight of the nine neighbours
  are over a half after four layers, as the numbers one and zero and as the bytes one and zero.
-/
module

public import proofs.«01_k».proof.Proof.Step
public import proofs.«01_k».proof.Proof.Count
public import Idealize.ShloMosaic.Lib.Pipeline.Value

@[expose] public section

set_option maxRecDepth 16384

noncomputable section

namespace Cert.KernelIdeal.Hits

open Cert.KernelIdeal Cert.KernelIdeal.Gen Cert.KernelIdeal.Run Cert.KernelIdeal.Shift Cert.KernelIdeal.Step Cert.Stencil
open Idealize.ShloMosaic
open scoped Classical

/-- The image of a block. -/
def image (x0 : Vec Ideal S1x1x1024x1024 .f32) : ℤ → ℤ → EReal := plane fun r c => x0 (ix4 0 0 r c)

/-- The haloed image that the loop starts from holds the block's image. -/
theorem start_holds (x0 : Vec Ideal S1x1x1024x1024 .f32) : Holds (k0_pay15 (F := Ideal) x0) (image x0) := by
  intro r c h1 h2
  have e : k0_pay15 (F := Ideal) x0 (ix2 r c) = x0 (ix4 0 0 ⟨r.val - 24, by omega⟩ c) := by
    have hc := c.isLt
    pointwise [k0_pay15]
    (repeat' split) <;> first
      | rfl
      | (exfalso; omega)
      | exact congrArg x0 (congrArg₂ (ix4 0 0) (Fin.ext (by (try dsimp only); omega)) (Fin.ext (by (try dsimp only); omega)))
  rw [e, image]
  have := plane_at (fun r c => x0 (ix4 0 0 r c)) ⟨r.val - 24, by omega⟩ c
  rw [← this]
  congr 1
  dsimp only
  omega

/-- A run of trips takes a held image to its layers. -/
theorem trips_hold {y : FVec Ideal S1072x1024 .f32} {u : ℤ → ℤ → EReal} (h : Holds y u) (hu : Finite u) :
    ∀ n : ℕ, Holds (trip^[n] y) (Stencil.layer^[n] u)
  | 0 => h
  | n + 1 => by
    rw [Function.iterate_succ_apply', Function.iterate_succ_apply']
    exact trip_holds (trips_hold h hu n) (hu.iterate n)

theorem zeros : (![0, 0, 0, 0] : Fin 4 → Nat) = fun _ => 0 := funext fun a => by fin_cases a <;> rfl

/-- After the loop the haloed image holds the fourth layer of the block's image. -/
theorem layers_hold (x0 : Vec Ideal S1x1x1024x1024 .f32) (hu : Finite (image x0)) : Holds (layers (F := Ideal) x0) (Stencil.layer^[4] (image x0)) := by
  have e : layers (F := Ideal) x0 = trip^[4] (k0_pay15 (F := Ideal) x0) := by
    unfold layers
    rw [Scf.fold_eq, View.ld_unit_zero zeros, List.foldl_const, List.length_finRange]
    rfl
  rw [e]
  exact trips_hold (start_holds x0) hu 4

/-- The threshold at a half, as ones and zeros, with the halo rows zero. -/
def bits (y : FVec Ideal S1072x1024 .f32) : FVec Ideal S1072x1024 .f32 :=
  concatenate S1072x1024 0 [⟨S24x1024, broadcast S24x1024 (Scalar.ofBits .f32 0x00000000#32 : Ideal .f32)⟩, ⟨S1024x1024, extractStridedSlice S1024x1024 ![24, 0]
    (select (cmpf .ogt y (broadcast S1072x1024 (Scalar.ofBits .f32 0x3F000000#32 : Ideal .f32))) (broadcast S1072x1024 (Scalar.ofBits .f32 0x3F800000#32 : Ideal .f32)) (broadcast S1072x1024 (Scalar.ofBits .f32 0x00000000#32 : Ideal .f32)))
    slices_S1072x1024_o24_0_S1024x1024⟩, ⟨S24x1024, broadcast S24x1024 (Scalar.ofBits .f32 0x00000000#32 : Ideal .f32)⟩] concatenates_S24x1024_S1024x1024_S24x1024_S1072x1024_d0

/-- Its sums of three neighbouring columns. -/
def rowSum (y : FVec Ideal S1072x1024 .f32) : FVec Ideal S1072x1024 .f32 :=
  addf (addf
    (concatenate S1072x1024 1 [⟨S1072x1, broadcast S1072x1 (Scalar.ofBits .f32 0x00000000#32 : Ideal .f32)⟩, ⟨S1072x1023, extractStridedSlice S1072x1023 ![0, 0] (bits y) slices_S1072x1024_o0_0_S1072x1023⟩] concatenates_S1072x1_S1072x1023_S1072x1024_d1 : FVec Ideal S1072x1024 .f32)
    (bits y))
    (concatenate S1072x1024 1 [⟨S1072x1023, extractStridedSlice S1072x1023 ![0, 1] (bits y) slices_S1072x1024_o0_1_S1072x1023⟩, ⟨S1072x1, broadcast S1072x1 (Scalar.ofBits .f32 0x00000000#32 : Ideal .f32)⟩] concatenates_S1072x1023_S1072x1_S1072x1024_d1 : FVec Ideal S1072x1024 .f32)

/-- Its sums of nine. -/
def sum9 (y : FVec Ideal S1072x1024 .f32) : FVec Ideal S1072x1024 .f32 := addf (addf
    (concatenate S1072x1024 0 [⟨S1x1024, broadcast S1x1024 (Scalar.ofBits .f32 0x00000000#32 : Ideal .f32)⟩, ⟨S1071x1024, extractStridedSlice S1071x1024 ![0, 0] (rowSum y) slices_S1072x1024_o0_0_S1071x1024⟩] concatenates_S1x1024_S1071x1024_S1072x1024_d0 : FVec Ideal S1072x1024 .f32)
    (rowSum y))
    (concatenate S1072x1024 0 [⟨S1071x1024, extractStridedSlice S1071x1024 ![1, 0] (rowSum y) slices_S1072x1024_o1_0_S1071x1024⟩, ⟨S1x1024, broadcast S1x1024 (Scalar.ofBits .f32 0x00000000#32 : Ideal .f32)⟩] concatenates_S1071x1024_S1x1024_S1072x1024_d0 : FVec Ideal S1072x1024 .f32)

/-- The last comparison is of the sums of nine with 7.5. -/
theorem pay17_eq (y : FVec Ideal S1072x1024 .f32) :
    k0_pay17 (F := Ideal) y = cmpf .ogt (sum9 y) (broadcast S1072x1024 (Scalar.ofBits .f32 0x40F00000#32 : Ideal .f32)) := rfl

section
variable {y : FVec Ideal S1072x1024 .f32} {v : ℤ → ℤ → EReal} (h : Holds y v)
include h

theorem bits_at (r : Fin 1072) (c : Fin 1024) : bits y (ix2 r c) = fill 0 (bit v) ((r : ℤ) - 24) c := by
  have hc := c.isLt
  have e := halo (Scalar.ofBits .f32 0x00000000#32 : Ideal .f32) (select (cmpf .ogt y (broadcast S1072x1024 (Scalar.ofBits .f32 0x3F000000#32 : Ideal .f32))) (broadcast S1072x1024 (Scalar.ofBits .f32 0x3F800000#32 : Ideal .f32)) (broadcast S1072x1024 (Scalar.ofBits .f32 0x00000000#32 : Ideal .f32))) r c
  rw [bits, e, fill]
  by_cases hi : 24 ≤ r.val ∧ r.val < 1048
  · rw [if_pos hi, if_pos (by unfold Inside; omega), bit, ← h r c hi.1 hi.2]
    show Scalar.select (Idealize.ShloMosaic.Ideal.cmp .ogt (y (ix2 r c)) (Scalar.ofBits .f32 0x3F000000#32 : Ideal .f32)) (Scalar.ofBits .f32 0x3F800000#32 : Ideal .f32) (Scalar.ofBits .f32 0x00000000#32 : Ideal .f32) = _
    have o : (Scalar.ofBits .f32 0x3F800000#32 : Ideal .f32) = (1 : EReal) := Ideal.ofBits_one_f32
    rw [half_eq, zero_eq, o, Scalar.select, Idealize.ShloMosaic.Ideal.cmp]
    generalize ((1 / 2 : ℝ) : EReal) = q
    by_cases hb : q < y (ix2 r c) <;> simp [hb]
  · rw [if_neg hi, if_neg (by unfold Inside; omega), zero_eq]

theorem planeBits (r c : ℤ) : onPlane (Scalar.ofBits .f32 0x00000000#32 : Ideal .f32) (bits y) r c = fill 0 (bit v) (r - 24) c := by
  rw [zero_eq]
  exact onPlane_fill (bits_at h) r c

theorem rowSum_at (r : Fin 1072) (c : Fin 1024) : rowSum y (ix2 r c) = sum1 (fill 0 (bit v)) ((r : ℤ) - 24) c :=
  congrArg₂ (fun a b : EReal => a + b) (congrArg₂ (fun a b : EReal => a + b)
    ((left1 _ (bits y) r c).trans (planeBits h _ _)) (bits_at h r c)) ((right1 _ (bits y) r c).trans (planeBits h _ _))

/-- In the middle rows the sums of nine are the counts. -/
theorem sum9_at (r : Fin 1072) (c : Fin 1024) (h1 : 24 ≤ r.val) (h2 : r.val < 1048) :
    sum9 y (ix2 r c) = total (fill 0 (bit v)) ((r : ℤ) - 24) c := by
  have hc := c.isLt
  have p : ∀ r' : ℤ, (0 ≤ r' ∧ r' < 1072) → onPlane (Scalar.ofBits .f32 0x00000000#32 : Ideal .f32) (rowSum y) r' c = sum1 (fill 0 (bit v)) (r' - 24) c := fun r' hr' =>
    onPlane_of (rowSum_at h) r' c hr' (by omega)
  have add := @congrArg₂ EReal EReal EReal (fun a b => a + b)
  have e : sum9 y (ix2 r c) = _ :=
    add (add ((up1 (Scalar.ofBits .f32 0x00000000#32 : Ideal .f32) (rowSum y) r c).trans (p _ (by omega))) (rowSum_at h r c)) ((down1 (Scalar.ofBits .f32 0x00000000#32 : Ideal .f32) (rowSum y) r c).trans (p _ (by omega)))
  rw [e, show (r : ℤ) - 1 - 24 = (r : ℤ) - 24 - 1 by ring, show (r : ℤ) + 1 - 24 = (r : ℤ) - 24 + 1 by ring]
  rfl

/-- So the last comparison is true exactly at the hits. -/
theorem pay17_at (r : Fin 1072) (c : Fin 1024) (h1 : 24 ≤ r.val) (h2 : r.val < 1048) :
    k0_pay17 (F := Ideal) y (ix2 r c) = if Hit v ((r : ℤ) - 24) c then 1#1 else 0#1 := by
  have s : (Scalar.ofBits .f32 0x40F00000#32 : Ideal .f32) = ((15 / 2 : ℝ) : EReal) := Cert.Consts.sevenHalf
  rw [pay17_eq]
  show Idealize.ShloMosaic.Ideal.cmp .ogt (sum9 y (ix2 r c)) (Scalar.ofBits .f32 0x40F00000#32 : Ideal .f32) = _
  rw [s, sum9_at h r c h1 h2, Idealize.ShloMosaic.Ideal.cmp, Hit]
  by_cases hb : ((15 / 2 : ℝ) : EReal) < total (fill 0 (bit v)) ((r : ℤ) - 24) c <;> simp [hb]

end

/-- The fourth layer of the block's image has a hit at the position. -/
abbrev hit (x0 : Vec Ideal S1x1x1024x1024 .f32) (r c : Fin 1024) : Prop := Hit (Stencil.layer^[4] (image x0)) r c

theorem pay17_layers (x0 : Vec Ideal S1x1x1024x1024 .f32) (hu : Finite (image x0)) (r c : Fin 1024) (hr : r.val + 24 < 1072) :
    k0_pay17 (layers (F := Ideal) x0) (ix2 ⟨r.val + 24, hr⟩ c) = if hit x0 r c then 1#1 else 0#1 := by
  rw [pay17_at (layers_hold x0 hu) ⟨r.val + 24, hr⟩ c (by dsimp only; omega) (by have := r.isLt; dsimp only; omega)]
  have e : (((⟨r.val + 24, hr⟩ : Fin 1072) : ℕ) : ℤ) - 24 = (r : ℤ) := by dsimp only; omega
  rw [e]

/-- The first result block. -/
theorem out1_at (x0 : Vec Ideal S1x1x1024x1024 .f32) (hu : Finite (image x0)) (r c : Fin 1024) :
    (out1 (F := Ideal) x0 (ix4 0 0 r c) : EReal) = if hit x0 r c then 1 else 0 := by
  have hr : r.val + 24 < 1072 := by have := r.isLt; omega
  have e : out1 (F := Ideal) x0 (ix4 0 0 r c) = Scalar.select (k0_pay17 (layers (F := Ideal) x0) (ix2 ⟨r.val + 24, hr⟩ c))
      (Scalar.ofBits .f32 0x3F800000#32 : Ideal .f32) (Scalar.ofBits .f32 0x00000000#32 : Ideal .f32) := by
    unfold out1
    rw [View.canon_unit_zero zeros]
    generalize layers (F := Ideal) x0 = y
    unfold k0_pay1 k0_pay18
    generalize k0_pay17 y = z
    pointwise
    congr 3
    first | exact Nat.add_comm _ _ | exact Fin.ext (Nat.add_comm _ _)
  have o : (Scalar.ofBits .f32 0x3F800000#32 : Ideal .f32) = (1 : EReal) := Ideal.ofBits_one_f32
  rw [e, pay17_layers x0 hu, o, zero_eq, Scalar.select]
  by_cases hb : hit x0 r c <;> simp [hb]

/-- The second result block. -/
theorem out2_at (x0 : Vec Ideal S1x1x1024x1024 .f32) (hu : Finite (image x0)) (r c : Fin 1024) :
    out2 (F := Ideal) x0 (ix4 0 0 r c) = if hit x0 r c then 1#8 else 0#8 := by
  have hr : r.val + 24 < 1072 := by have := r.isLt; omega
  have e : out2 (F := Ideal) x0 (ix4 0 0 r c) = (Scalar.select (k0_pay17 (layers (F := Ideal) x0) (ix2 ⟨r.val + 24, hr⟩ c))
      1#32 0#32).setWidth 8 := by
    unfold out2
    rw [View.canon_unit_zero zeros]
    generalize k0_pay17 (layers (F := Ideal) x0) = z
    unfold k0_pay2
    pointwise
    congr 4
    first | exact Nat.add_comm _ _ | exact Fin.ext (Nat.add_comm _ _)
  rw [e, pay17_layers x0 hu, Scalar.select]
  by_cases hb : hit x0 r c <;> simp [hb]

end Cert.KernelIdeal.Hits

end
-- ==== Proof.Arrays.lean ====
/-
  The kernel's two result arrays after a run, as functions of the image array.
-/
module

public import proofs.«01_k».proof.Proof.Hits
public import Idealize.ShloMosaic.Lib.Pipeline.ValueKit
public import Idealize.ShloMosaic.Lib.StableHlo.Run

@[expose] public section

set_option maxRecDepth 16384

noncomputable section

namespace Cert.KernelIdeal.Arrays

open Cert.KernelIdeal Cert.KernelIdeal.Gen Cert.KernelIdeal.Run Cert.KernelIdeal.Hits Cert.Stencil
open Idealize.ShloMosaic Idealize.ShloMosaic.TcCoe Idealize.SL.Sem
open Idealize.ShloMosaic.Pipeline (Dat)
open scoped Classical

variable (m : (ℓ : Loc nD τ sig) → Buf (Elt Ideal) ℓ)

/-- The image array. -/
abbrev input (c : Dev nD) : S16x1x1024x1024.Idx → EReal := m ((c : Thread nD τ).loc main_arg0)

/-- Image `b` of an array of images. -/
def imageOf (x : S16x1x1024x1024.Idx → EReal) (b : Fin 16) : ℤ → ℤ → EReal := plane fun r c => x (ix4 b 0 r c)

/-- The fourth layer of image `i 0` has a hit at the position `(i 2, i 3)`. -/
def HitAt (x : S16x1x1024x1024.Idx → EReal) (i : S16x1x1024x1024.Idx) : Prop :=
  Hit (Stencil.layer^[4] (imageOf x (i 0))) ((i 2).val : ℤ) ((i 3).val : ℤ)

/-- The first result. -/
def G1 (x : S16x1x1024x1024.Idx → EReal) : S16x1x1024x1024.Idx → EReal := fun i => if HitAt x i then 1 else 0

/-- The second result as the kernel's call returns it. -/
def G2 (x : S16x1x1024x1024.Idx → EReal) : S16x1x1024x1024.Idx → BitVec 8 := fun i => if HitAt x i then 1#8 else 0#8

theorem place (t : Fin 16) (y : S1x1x1024x1024.Idx) (j : S16x1x1024x1024.Idx)
    (h0 : (j 0).val = t.val * 1 + (y 0).val) (h2 : (j 2).val = 0 * 1024 + (y 2).val) (h3 : (j 3).val = 0 * 1024 + (y 3).val) : j = ix4 t 0 (y 2) (y 3) := by
  have a0 : (y 0).val < 1 := (y 0).isLt
  have b1 : (j 1).val < 1 := (j 1).isLt
  funext a
  apply Fin.ext
  match a with
  | ⟨0, _⟩ => show (j 0).val = t.val; omega
  | ⟨1, _⟩ => show (j 1).val = 0; omega
  | ⟨2, _⟩ => show (j 2).val = (y 2).val; omega
  | ⟨3, _⟩ => show (j 3).val = (y 3).val; omega

theorem index0 : ∀ t : Fin cfg0.N, win0_0.index t = ![t.val, 0, 0, 0] := by decide +kernel
theorem index1 : ∀ t : Fin cfg0.N, win0_1.index t = ![t.val, 0, 0, 0] := by decide +kernel
theorem index2 : ∀ t : Fin cfg0.N, win0_2.index t = ![t.val, 0, 0, 0] := by decide +kernel

/-! Each window's block at point `t` is image `t`. -/

theorem emb0 (t : Fin cfg0.N) (y : S1x1x1024x1024.Idx) : (win0_0.blk t).view.emb y = (ix4 (⟨t.val, t.isLt⟩ : Fin 16) 0 (y 2) (y 3) : S16x1x1024x1024.Idx) := by
  have e := index0 t
  have e0 : win0_0.index t (0 : Fin 4) = t.val := by rw [e]; rfl
  have e2 : win0_0.index t (2 : Fin 4) = 0 := by rw [e]; rfl
  have e3 : win0_0.index t (3 : Fin 4) = 0 := by rw [e]; rfl
  refine place ⟨t.val, t.isLt⟩ y _ ?_ ?_ ?_
  · show win0_0.index t (0 : Fin 4) * 1 + 1 * (y 0).val = t.val * 1 + (y 0).val
    omega
  · show win0_0.index t (2 : Fin 4) * 1024 + 1 * (y 2).val = 0 * 1024 + (y 2).val
    omega
  · show win0_0.index t (3 : Fin 4) * 1024 + 1 * (y 3).val = 0 * 1024 + (y 3).val
    omega

theorem emb1 (t : Fin cfg0.N) (y : S1x1x1024x1024.Idx) : (win0_1.blk t).view.emb y = (ix4 (⟨t.val, t.isLt⟩ : Fin 16) 0 (y 2) (y 3) : S16x1x1024x1024.Idx) := by
  have e := index1 t
  have e0 : win0_1.index t (0 : Fin 4) = t.val := by rw [e]; rfl
  have e2 : win0_1.index t (2 : Fin 4) = 0 := by rw [e]; rfl
  have e3 : win0_1.index t (3 : Fin 4) = 0 := by rw [e]; rfl
  refine place ⟨t.val, t.isLt⟩ y _ ?_ ?_ ?_
  · show win0_1.index t (0 : Fin 4) * 1 + 1 * (y 0).val = t.val * 1 + (y 0).val
    omega
  · show win0_1.index t (2 : Fin 4) * 1024 + 1 * (y 2).val = 0 * 1024 + (y 2).val
    omega
  · show win0_1.index t (3 : Fin 4) * 1024 + 1 * (y 3).val = 0 * 1024 + (y 3).val
    omega

theorem emb2 (t : Fin cfg0.N) (y : S1x1x1024x1024.Idx) : (win0_2.blk t).view.emb y = (ix4 (⟨t.val, t.isLt⟩ : Fin 16) 0 (y 2) (y 3) : S16x1x1024x1024.Idx) := by
  have e := index2 t
  have e0 : win0_2.index t (0 : Fin 4) = t.val := by rw [e]; rfl
  have e2 : win0_2.index t (2 : Fin 4) = 0 := by rw [e]; rfl
  have e3 : win0_2.index t (3 : Fin 4) = 0 := by rw [e]; rfl
  refine place ⟨t.val, t.isLt⟩ y _ ?_ ?_ ?_
  · show win0_2.index t (0 : Fin 4) * 1 + 1 * (y 0).val = t.val * 1 + (y 0).val
    omega
  · show win0_2.index t (2 : Fin 4) * 1024 + 1 * (y 2).val = 0 * 1024 + (y 2).val
    omega
  · show win0_2.index t (3 : Fin 4) * 1024 + 1 * (y 3).val = 0 * 1024 + (y 3).val
    omega

theorem block_at (c : Dev nD) (t : Fin cfg0.N) (y : S1x1x1024x1024.Idx) :
    iblk m c 0 t y = input m c (ix4 (⟨t.val, t.isLt⟩ : Fin 16) 0 (y 2) (y 3)) := by
  unfold iblk
  blk_simp
  rw [emb0]
  rfl

/-- The image of the block at point `t` is image `t` of the array. -/
theorem image_block (c : Dev nD) (t : Fin cfg0.N) : image (iblk m c 0 t) = imageOf (input m c) (⟨t.val, t.isLt⟩ : Fin 16) :=
  congrArg plane (funext fun r => funext fun q => block_at m c t (ix4 0 0 r q))

/-- A block's index is its row and its column. -/
theorem idx_block (y : S1x1x1024x1024.Idx) : y = ix4 0 0 (y 2) (y 3) := by
  have a0 : (y 0).val < 1 := (y 0).isLt
  have a1 : (y 1).val < 1 := (y 1).isLt
  funext a
  apply Fin.ext
  match a with
  | ⟨0, _⟩ => show (y 0).val = 0; omega
  | ⟨1, _⟩ => show (y 1).val = 0; omega
  | ⟨2, _⟩ => rfl
  | ⟨3, _⟩ => rfl

theorem hit_block (c : Dev nD) (t : Fin cfg0.N) (r q : Fin 1024) :
    hit (iblk m c 0 t) r q = HitAt (input m c) (ix4 (⟨t.val, t.isLt⟩ : Fin 16) 0 r q) := by
  rw [hit, image_block]
  rfl

/-- The first result array. -/
theorem array1 (c : Dev nD) (h : ∀ b, Finite (imageOf (input m c) b)) : (dats (F := Ideal) m 0 c).arrAt 1 cfg0.N = G1 (input m c) := by
  refine Dat.arrAt_eq_of_covers _ 1 _ (by decide +kernel) fun t hf y => ?_
  blk_simp
  rw [after0_1, emb1]
  have hu : Finite (image (iblk m c 0 t)) := by rw [image_block]; exact h _
  refine (congrArg (out1 (iblk m c 0 t)) (idx_block y)).trans ((out1_at (iblk m c 0 t) hu (y 2) (y 3)).trans ?_)
  exact if_congr (iff_of_eq (hit_block m c t (y 2) (y 3))) rfl rfl

/-- The second result array, as bytes. -/
theorem array2 (c : Dev nD) (h : ∀ b, Finite (imageOf (input m c) b)) : (dats (F := Ideal) m 0 c).arrAt 2 cfg0.N = G2 (input m c) := by
  refine Dat.arrAt_eq_of_covers _ 2 _ (by decide +kernel) fun t hf y => ?_
  blk_simp
  rw [after0_2, emb2]
  have hu : Finite (image (iblk m c 0 t)) := by rw [image_block]; exact h _
  refine (congrArg (out2 (iblk m c 0 t)) (idx_block y)).trans ((out2_at (iblk m c 0 t) hu (y 2) (y 3)).trans ?_)
  exact if_congr (iff_of_eq (hit_block m c t (y 2) (y 3))) rfl rfl

/-- The mask: the bytes compared with zero. -/
def G3 (x : S16x1x1024x1024.Idx → EReal) : S16x1x1024x1024.Idx → BitVec 1 := fun i => if HitAt x i then 1#1 else 0#1

theorem tail_mask (c : Dev nD) (h : ∀ b, Finite (imageOf (input m c) b)) :
    Pipeline.afterTail₀ cfgs (dats (F := Ideal) m) 0 (V0 m) [hostOps1] c main_v3 = G3 (input m c) := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v0_1)
      = (dats (F := Ideal) m 0 c).arrAt 2 cfg0.N :=
    Pipeline.withArrays_arr (cfgs 0).spec (by decide) c (V0 m c) _ 2
  rw [e, array2 m c h]
  funext i
  show IntOp.cmpi .ne (G2 (input m c) i) 0#8 = G3 (input m c) i
  rw [G2, G3]
  by_cases hb : HitAt (input m c) i <;> simp [hb, IntOp.cmpi]

/-- The kernel's run: both results as functions of the image array, and the arguments unchanged. -/
theorem run (ρ : Dev nD → PrngReg) (h : ∀ c b, Finite (imageOf (input m c) b)) :
    θ_run (defs (F := Ideal)) (onTc (τ := τ) (main (F := Ideal))) ⟨m, fun _ => 0, ρ⟩ fun r => ∀ c : Dev nD,
      r.2.mem ((c.tc : Thread nD τ).loc main_v0_0) = G1 (input m c)
      ∧ r.2.mem ((c.tc : Thread nD τ).loc main_v3) = G3 (input m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r hr c => ⟨((hr.1 c).1 1).trans (array1 m c (h c)),
      ((hr.1 c).2 main_v3 (Pipeline.mem_restRefs_of main_v3 (by decide) (by decide))).trans (tail_mask m c (h c)),
      (hr.2.1 c).1, (hr.2.1 c).2⟩)
    (θ_run_and (run_main m ρ) (frame m ρ))

end Cert.KernelIdeal.Arrays

end
-- ==== Proof.Windows.lean ====
/-
  The reference program's operations read at a position of image `b`: the zero-padded image, one product of the stencil,
  and the fold of a binary operation over the nine positions of a window.
-/
module

public import proofs.«01_k».proof.Proof.Gen.ReferenceIdeal
public import proofs.«01_k».proof.Proof.Consts
public import proofs.«01_k».proof.Proof.Count
public import Idealize.ShloMosaic.Lib.Pointwise

@[expose] public section

set_option maxRecDepth 16384

noncomputable section

namespace Cert.ReferenceIdeal.Windows

open Cert.ReferenceIdeal Cert.ReferenceIdeal.Gen Cert.Stencil
open Idealize.ShloMosaic

/-- The array's image `b` is `u b` on the square. -/
def Holds (y : S16x1x1024x1024.Idx → EReal) (u : Fin 16 → ℤ → ℤ → EReal) : Prop :=
  ∀ (b : Fin 16) (r c : Fin 1024), y (ix4 b 0 r c) = u b r c

/-- The index of an array of images, from its coordinates. -/
theorem idx_eq (i : S16x1x1024x1024.Idx) : i = ix4 (i 0) 0 (i 2) (i 3) := by
  have h1 : (i 1).val < 1 := (i 1).isLt
  funext a
  apply Fin.ext
  match a with
  | ⟨0, _⟩ => rfl
  | ⟨1, _⟩ => show (i 1).val = 0; omega
  | ⟨2, _⟩ => rfl
  | ⟨3, _⟩ => rfl

/-- A fold over the first `n` numbers does not look at their bounds. -/
theorem foldl_finRange {α : Type} (g : α → ℕ → α) (z : α) (n : ℕ) :
    (List.finRange n).foldl (fun a i => g a i.val) z = (List.range n).foldl g z := by
  rw [← List.map_coe_finRange_eq_range, List.foldl_map]

/-- The window: one image, one channel, three rows, three columns. -/
abbrev W : Shape := ⟨4, ![1, 1, 3, 3]⟩

theorem coords : ∀ n : Fin W.numel, (W.rowMajor.symm n 0).val = 0 ∧ (W.rowMajor.symm n 1).val = 0
    ∧ (W.rowMajor.symm n 2).val = n.val / 3 ∧ (W.rowMajor.symm n 3).val = n.val % 3 := by decide +kernel

/-- One entry of a window: the image's entry inside the square, the initial value outside. -/
theorem entry {y : S16x1x1024x1024.Idx → EReal} {u : Fin 16 → ℤ → ℤ → EReal} (hy : Holds y u) (z : EReal) (b : Fin 16) (r c : Fin 1024)
    (w : W.Idx) (i j : ℕ) (h0 : (w 0).val = 0) (h1 : (w 1).val = 0) (h2 : (w 2).val = i) (h3 : (w 3).val = j) (p : Fin 4 → ℕ)
    (hp : ∀ a, p a = ((ix4 b 0 r c : S16x1x1024x1024.Idx) a).val * (![1, 1, 1, 1] : Fin 4 → ℕ) a + (w a).val)
    (d : Decidable (∀ a : Fin 4, (![0, 0, 1, 1] : Fin 4 → ℕ) a ≤ p a ∧ p a - (![0, 0, 1, 1] : Fin 4 → ℕ) a < S16x1x1024x1024.size a)) :
    @dite EReal (∀ a : Fin 4, (![0, 0, 1, 1] : Fin 4 → ℕ) a ≤ p a ∧ p a - (![0, 0, 1, 1] : Fin 4 → ℕ) a < S16x1x1024x1024.size a) d
        (fun hin => y fun a => ⟨p a - (![0, 0, 1, 1] : Fin 4 → ℕ) a, (hin a).2⟩) (fun _ => z)
      = fill z (u b) ((r : ℤ) + i - 1) ((c : ℤ) + j - 1) := by
  have p0 : p 0 = b.val := by rw [hp 0, h0]; exact Nat.mul_one _
  have p1 : p 1 = 0 := by rw [hp 1, h1]; rfl
  have p2 : p 2 = r.val + i := by rw [hp 2, h2]; exact congrArg (· + i) (Nat.mul_one _)
  have p3 : p 3 = c.val + j := by rw [hp 3, h3]; exact congrArg (· + j) (Nat.mul_one _)
  have hr := r.isLt
  have hc := c.isLt
  unfold fill
  by_cases hin : (1 ≤ r.val + i ∧ r.val + i - 1 < 1024) ∧ (1 ≤ c.val + j ∧ c.val + j - 1 < 1024)
  · rw [if_pos (by unfold Inside; omega), dif_pos]
    · refine (congrArg y ?_).trans ((hy b ⟨r.val + i - 1, hin.1.2⟩ ⟨c.val + j - 1, hin.2.2⟩).trans ?_)
      · funext a
        apply Fin.ext
        match a with
        | ⟨0, _⟩ => exact p0
        | ⟨1, _⟩ => exact p1
        | ⟨2, _⟩ => exact congrArg (· - 1) p2
        | ⟨3, _⟩ => exact congrArg (· - 1) p3
      · exact congrArg₂ (u b) (by show ((r.val + i - 1 : ℕ) : ℤ) = _; omega) (by show ((c.val + j - 1 : ℕ) : ℤ) = _; omega)
    · intro a
      match a with
      | ⟨0, _⟩ => exact ⟨Nat.zero_le _, (show p 0 - 0 < 16 by have := b.isLt; omega)⟩
      | ⟨1, _⟩ => exact ⟨Nat.zero_le _, (show p 1 - 0 < 1 by omega)⟩
      | ⟨2, _⟩ => exact (show 1 ≤ p 2 ∧ p 2 - 1 < 1024 by omega)
      | ⟨3, _⟩ => exact (show 1 ≤ p 3 ∧ p 3 - 1 < 1024 by omega)
  · rw [if_neg (by unfold Inside; omega), dif_neg]
    intro h
    have a2 : 1 ≤ p 2 ∧ p 2 - 1 < 1024 := h 2
    have a3 : 1 ≤ p 3 ∧ p 3 - 1 < 1024 := h 3
    omega

/-- The fold over a window, entry after entry. -/
theorem fold_window {y : S16x1x1024x1024.Idx → EReal} {u : Fin 16 → ℤ → ℤ → EReal} (hy : Holds y u) (f : EReal → EReal → EReal)
    {t : Shape} (v : t.Idx → EReal) (z : EReal) (hv : ∀ i, v i = z)
    (h : S16x1x1024x1024.ReduceWindows (![1, 1, 3, 3] : Fin 4 → ℕ) ![1, 1, 1, 1] ![0, 0, 1, 1] ![0, 0, 1, 1] S16x1x1024x1024) (hu : 0 < t.numel)
    (b : Fin 16) (r c : Fin 1024) :
    Host.reduceWindow f (![1, 1, 3, 3] : Fin 4 → ℕ) ![1, 1, 1, 1] ![0, 0, 1, 1] ![0, 0, 1, 1] y v h hu (ix4 b 0 r c)
      = (List.range 9).foldl (fun a n => f a (fill z (u b) ((r : ℤ) + (n / 3 : ℕ) - 1) ((c : ℤ) + (n % 3 : ℕ) - 1))) z := by
  refine Eq.trans ?_ ((foldl_finRange _ z W.numel).trans (congrArg (fun n => (List.range n).foldl _ z) (by decide +kernel)))
  unfold Host.reduceWindow
  show (List.finRange W.numel).foldl _ (v (Shape.Idx.first hu)) = _
  rw [hv]
  congr 1
  funext a n
  obtain ⟨h0, h1, h2, h3⟩ := coords n
  exact congrArg (f a) (entry hy z b r c (W.rowMajor.symm n) _ _ h0 h1 h2 h3 _ (fun _ => rfl) _)

/-- The maximum over a window from negative infinity. -/
theorem max_window {y : S16x1x1024x1024.Idx → EReal} {u : Fin 16 → ℤ → ℤ → EReal} (hy : Holds y u) :
    Holds (Host.reduceWindow (FloatOps.maximumf (F := Ideal) (φ := .f32)) (![1, 1, 3, 3] : Fin 4 → ℕ) ![1, 1, 1, 1] ![0, 0, 1, 1] ![0, 0, 1, 1] y
        (broadcastInDim S_ ![] bcast_S_S_ (constant (F := Ideal) S_ .f32 0xFF800000#32))
        reduceWindows_S16x1x1024x1024_S16x1x1024x1024_w1s1p0_0_w1s1p0_0_w3s1p1_1_w3s1p1_1 h_S_)
      fun b => Stencil.pool (fill ⊥ (u b)) := fun b r c => by
  refine (fold_window hy _ _ ⊥ (fun _ => Consts.negInf) _ _ b r c).trans ?_
  show max (max (max (max (max (max (max (max (max ⊥ _) _) _) _) _) _) _) _) _ = _
  simp only [Stencil.pool, pool1, max_bot_left, max_assoc]
  norm_num [add_sub_assoc]

/-- The sum over a window from zero. -/
theorem sum_window {y : S16x1x1024x1024.Idx → EReal} {u : Fin 16 → ℤ → ℤ → EReal} (hy : Holds y u) :
    Holds (Host.reduceWindowAdd (F := Ideal) (φ := .f32) (![1, 1, 3, 3] : Fin 4 → ℕ) ![1, 1, 1, 1] ![0, 0, 1, 1] ![0, 0, 1, 1] y
        (broadcastInDim S_ ![] bcast_S_S_ (constant (F := Ideal) S_ .f32 0x00000000#32))
        reduceWindows_S16x1x1024x1024_S16x1x1024x1024_w1s1p0_0_w1s1p0_0_w3s1p1_1_w3s1p1_1 h_S_)
      fun b => spread (fill 0 (u b)) := fun b r c => by
  refine (fold_window hy (· + ·) (fun _ : (⟨0, ![]⟩ : Shape).Idx => (Ideal.ofBits .f32 0x00000000#32 : EReal)) 0 (fun _ => by simp)
    reduceWindows_S16x1x1024x1024_S16x1x1024x1024_w1s1p0_0_w1s1p0_0_w3s1p1_1_w3s1p1_1 (by decide) b r c).trans ?_
  show 0 + _ + _ + _ + _ + _ + _ + _ + _ + _ = _
  norm_num [spread, add_sub_assoc]

/-- The zero-padded image at a position of the padded square. -/
theorem pad_at {y : S16x1x1024x1024.Idx → EReal} {u : Fin 16 → ℤ → ℤ → EReal} (hy : Holds y u) (b : Fin 16) (r c : Fin 1030) :
    (pad S16x1x1030x1030 ![0, 0, 3, 3] ![0, 0, 3, 3] ![0, 0, 0, 0] y (sitofp (F := Ideal) .f32 (constantI S_ 32 0#32))
        pads_S16x1x1024x1024_S16x1x1030x1030_000_000_330_330 h_S_ : S16x1x1030x1030.Idx → EReal) (ix4 b 0 r c)
      = fill 0 (u b) ((r : ℤ) - 3) ((c : ℤ) - 3) := by
  have hr := r.isLt
  have hc := c.isLt
  unfold fill Inside
  pointwise
  split
  · next h =>
    refine Eq.trans ?_ (if_pos (by omega)).symm
    refine (hy b _ _).trans (congrArg₂ (u b) ?_ ?_) <;> · simp only []; omega
  · next h =>
    refine Eq.trans ?_ (if_neg (by omega)).symm
    show (((0#32 : BitVec 32).toInt : ℝ) : EReal) = 0
    simp

end Cert.ReferenceIdeal.Windows

end
-- ==== Proof.Layers.lean ====
/-
  One layer of the reference program on an array of images: the 49 products of the stencil added in the program's order,
  then the maximum over the windows. Image by image it is `Stencil.layer`.
-/
module

public import proofs.«01_k».proof.Proof.Windows

@[expose] public section

set_option maxRecDepth 16384

noncomputable section

namespace Cert.ReferenceIdeal.Layers

open Cert.ReferenceIdeal Cert.ReferenceIdeal.Gen Cert.ReferenceIdeal.Windows Cert.Stencil
open Idealize.ShloMosaic

/-- An array of images. -/
abbrev Arr := FVec Ideal S16x1x1024x1024 FTy.f32
/-- A padded array of images. -/
abbrev Padded := FVec Ideal S16x1x1030x1030 FTy.f32
/-- The stencil's weights. -/
abbrev Weights := FVec Ideal S1x1x7x7 FTy.f32

theorem slices_weights (i j : ℕ) (hi : i < 7) (hj : j < 7) : S1x1x7x7.Slices ![0, 0, i, j] S1x1x1x1 :=
  ⟨rfl, fun a => by
    match a with
    | ⟨0, _⟩ => exact Nat.le_refl 1
    | ⟨1, _⟩ => exact Nat.le_refl 1
    | ⟨2, _⟩ => exact hi
    | ⟨3, _⟩ => exact hj⟩

theorem slices_padded (i j : ℕ) (hi : i < 7) (hj : j < 7) : S16x1x1030x1030.Slices ![0, 0, i, j] S16x1x1024x1024 :=
  ⟨rfl, fun a => by
    match a with
    | ⟨0, _⟩ => exact Nat.le_refl 16
    | ⟨1, _⟩ => exact Nat.le_refl 1
    | ⟨2, _⟩ => exact (show i + 1024 ≤ 1030 by omega)
    | ⟨3, _⟩ => exact (show j + 1024 ≤ 1030 by omega)⟩

/-- The product of one weight with the padded images shifted to it. -/
def term (k : Weights) (p : Padded) (i j : ℕ) (hi : i < 7) (hj : j < 7) : Arr :=
  mulf (broadcastInDim S16x1x1024x1024 ![] bcast_S_S16x1x1024x1024
      (shapeCast S_ (extractStridedSlice S1x1x1x1 ![0, 0, i, j] k (slices_weights i j hi hj)) shapeCasts_S1x1x1x1_S_))
    (extractStridedSlice S16x1x1024x1024 ![0, 0, i, j] p (slices_padded i j hi hj))

/-- The products of one row of weights, added to what the rows before it gave. -/
def row (k : Weights) (p : Padded) (i : ℕ) (hi : i < 7) (a : Arr) : Arr :=
  addf (addf (addf (addf (addf (addf (addf a (term k p i 0 hi (by decide))) (term k p i 1 hi (by decide))) (term k p i 2 hi (by decide)))
    (term k p i 3 hi (by decide))) (term k p i 4 hi (by decide))) (term k p i 5 hi (by decide))) (term k p i 6 hi (by decide))

/-- The padded images. -/
def padded (y : Arr) : Padded :=
  pad S16x1x1030x1030 ![0, 0, 3, 3] ![0, 0, 3, 3] ![0, 0, 0, 0] y (sitofp .f32 (constantI S_ 32 0#32))
    pads_S16x1x1024x1024_S16x1x1030x1030_000_000_330_330 h_S_

/-- The weighted sum of the padded images. -/
def sums (k : Weights) (p : Padded) : Arr :=
  row k p 6 (by decide) (row k p 5 (by decide) (row k p 4 (by decide) (row k p 3 (by decide) (row k p 2 (by decide) (row k p 1 (by decide)
    (row k p 0 (by decide) (broadcastInDim S16x1x1024x1024 ![] bcast_S_S16x1x1024x1024 (constant S_ .f32 0x00000000#32))))))))

/-- The maximum over the windows. -/
def peaks (y : Arr) : Arr :=
  Host.reduceWindow FloatOps.maximumf (![1, 1, 3, 3] : Fin 4 → ℕ) ![1, 1, 1, 1] ![0, 0, 1, 1] ![0, 0, 1, 1] y
    (broadcastInDim S_ ![] bcast_S_S_ (constant S_ .f32 0xFF800000#32))
    reduceWindows_S16x1x1024x1024_S16x1x1024x1024_w1s1p0_0_w1s1p0_0_w3s1p1_1_w3s1p1_1 h_S_

/-- One layer. -/
def stage (k : Weights) (y : Arr) : Arr := peaks (sums k (padded y))

theorem weight_at (k : Weights) (i j : ℕ) (hi : i < 7) (hj : j < 7) (x : S16x1x1024x1024.Idx) :
    broadcastInDim S16x1x1024x1024 ![] bcast_S_S16x1x1024x1024
      (shapeCast S_ (extractStridedSlice S1x1x1x1 ![0, 0, i, j] k (slices_weights i j hi hj)) shapeCasts_S1x1x1x1_S_) x
      = k (ix4 0 0 ⟨i, hi⟩ ⟨j, hj⟩) := by
  refine congrArg k (funext fun a => Fin.ext ?_)
  match a with
  | ⟨0, _⟩ => exact Nat.lt_one_iff.mp (Fin.isLt (n := 1) _)
  | ⟨1, _⟩ => exact Nat.lt_one_iff.mp (Fin.isLt (n := 1) _)
  | ⟨2, _⟩ => exact (congrArg (i + ·) (Nat.lt_one_iff.mp (Fin.isLt (n := 1) _)))
  | ⟨3, _⟩ => exact (congrArg (j + ·) (Nat.lt_one_iff.mp (Fin.isLt (n := 1) _)))

variable {k : Weights} (hk : ∀ i j : Fin 7, k (ix4 0 0 i j) = filter i j)
variable {y : Arr} {u : Fin 16 → ℤ → ℤ → EReal} (hy : Holds y u)
include hk hy

/-- One product at a position. -/
theorem term_at (i j : ℕ) (hi : i < 7) (hj : j < 7) (b : Fin 16) (r c : Fin 1024) (r' c' : ℤ) (hr : r' = (r : ℤ) + i - 3) (hc : c' = (c : ℤ) + j - 3) :
    term k (padded y) i j hi hj (ix4 b 0 r c) = filter i j * fill 0 (u b) r' c' := by
  have br := r.isLt
  have bc := c.isLt
  refine congrArg₂ (fun a b : EReal => a * b) ((weight_at k i j hi hj _).trans (hk _ _)) ?_
  have e : (extractStridedSlice S16x1x1024x1024 ![0, 0, i, j] (padded y) (slices_padded i j hi hj) : Arr) (ix4 b 0 r c)
      = padded y (ix4 b 0 ⟨r.val + i, by omega⟩ ⟨c.val + j, by omega⟩) := by
    refine congrArg (padded y) (funext fun a => Fin.ext ?_)
    match a with
    | ⟨0, _⟩ => exact Nat.zero_add _
    | ⟨1, _⟩ => rfl
    | ⟨2, _⟩ => exact Nat.add_comm _ _
    | ⟨3, _⟩ => exact Nat.add_comm _ _
  refine e.trans ((pad_at hy b _ _).trans (congrArg₂ (fill 0 (u b)) ?_ ?_)) <;> · simp only []; omega

/-- A row of products at a position. -/
theorem row_at (i : ℕ) (hi : i < 7) (a : Arr) (b : Fin 16) (r c : Fin 1024) (r' : ℤ) (hr : r' = (r : ℤ) + i - 3) (s : EReal) (hs : a (ix4 b 0 r c) = s) :
    row k (padded y) i hi a (ix4 b 0 r c)
      = s + filter i 0 * fill 0 (u b) r' ((c : ℤ) - 3) + filter i 1 * fill 0 (u b) r' ((c : ℤ) - 2) + filter i 2 * fill 0 (u b) r' ((c : ℤ) - 1)
        + filter i 3 * fill 0 (u b) r' c + filter i 4 * fill 0 (u b) r' ((c : ℤ) + 1) + filter i 5 * fill 0 (u b) r' ((c : ℤ) + 2)
        + filter i 6 * fill 0 (u b) r' ((c : ℤ) + 3) := by
  repeat refine congrArg₂ (fun a b : EReal => a + b) ?_ (term_at hk hy _ _ _ _ b r c _ _ hr (by omega))
  exact hs

/-- The weighted sum at a position. -/
theorem sums_at : Holds (sums k (padded y)) fun b => conv filter (fill 0 (u b)) := fun b r c => by
  refine row_at hk hy 6 _ _ b r c _ (by omega) _ ?_
  refine row_at hk hy 5 _ _ b r c _ (by omega) _ ?_
  refine row_at hk hy 4 _ _ b r c _ (by omega) _ ?_
  refine row_at hk hy 3 _ _ b r c _ (by omega) _ ?_
  refine row_at hk hy 2 _ _ b r c _ (by omega) _ ?_
  refine row_at hk hy 1 _ _ b r c _ (by omega) _ ?_
  refine row_at hk hy 0 _ _ b r c _ (by omega) _ ?_
  exact Ideal.ofBits_zero_f32

/-- One layer, image by image. -/
theorem stage_at : Holds (stage k y) fun b => Stencil.layer (u b) := max_window (sums_at hk hy)

end Cert.ReferenceIdeal.Layers

end
-- ==== Proof.Verdict.lean ====
/-
  The reference program's last steps: the thresholded fourth layer, its mean over the windows and the two results.
-/
module

public import proofs.«01_k».proof.Proof.Layers

@[expose] public section

set_option maxRecDepth 16384

noncomputable section

namespace Cert.ReferenceIdeal.Verdict

open Cert.ReferenceIdeal Cert.ReferenceIdeal.Gen Cert.ReferenceIdeal.Windows Cert.ReferenceIdeal.Layers Cert.Stencil
open Idealize.ShloMosaic
open scoped Classical

/-- An array of one number. -/
abbrev fixed (w : BitVec 32) : Arr := broadcastInDim S16x1x1024x1024 ![] bcast_S_S16x1x1024x1024 (constant S_ .f32 w)

/-- Ones where the array is over one half. -/
def bits (y : Arr) : Arr := uitofp .f32 (cmpf .ogt y (fixed 0x3F000000#32))

/-- The mean over the windows. -/
def means (y : Arr) : Arr :=
  Host.divf (Host.reduceWindowAdd (![1, 1, 3, 3] : Fin 4 → ℕ) ![1, 1, 1, 1] ![0, 0, 1, 1] ![0, 0, 1, 1] y
    (broadcastInDim S_ ![] bcast_S_S_ (constant S_ .f32 0x00000000#32))
    reduceWindows_S16x1x1024x1024_S16x1x1024x1024_w1s1p0_0_w1s1p0_0_w3s1p1_1_w3s1p1_1 h_S_) (fixed 0x41100000#32)

/-- The first result, from the fourth layer. -/
def marks (y : Arr) : Arr := uitofp .f32 (cmpf .ogt (means (bits y)) (fixed 0x3F4CCCCD#32))

/-- The second result, from the fourth layer. -/
def mask (y : Arr) : S16x1x1024x1024.Idx → BitVec 1 := cmpf .ogt (marks y) (fixed 0x3F000000#32)

/-- A truth value as a number. -/
theorem number (p : Prop) [Decidable p] : (((BitVec.ofBool (decide p)).toNat : ℝ) : EReal) = if p then 1 else 0 := by
  by_cases h : p <;> simp [h]

variable {y : Arr} {v : Fin 16 → ℤ → ℤ → EReal} (hy : Holds y v)
include hy

theorem bits_at : Holds (bits y) fun b => bit (v b) := fun b r c => by
  have e : bits y (ix4 b 0 r c) = (((BitVec.ofBool (decide (Idealize.ShloMosaic.Ideal.ofBits .f32 0x3F000000#32 < y (ix4 b 0 r c)))).toNat : ℝ) : EReal) := rfl
  rw [e, number, Consts.half, hy b r c]
  exact if_congr Iff.rfl rfl rfl

theorem marks_at (b : Fin 16) (r c : Fin 1024) : marks y (ix4 b 0 r c) = if Hit (v b) r c then 1 else 0 := by
  have e : marks y (ix4 b 0 r c)
      = (((BitVec.ofBool (decide (Idealize.ShloMosaic.Ideal.ofBits .f32 0x3F4CCCCD#32 < means (bits y) (ix4 b 0 r c)))).toNat : ℝ) : EReal) := rfl
  have d : means (bits y) (ix4 b 0 r c) = Idealize.ShloMosaic.Ideal.div (spread (fill 0 (bit (v b))) r c) (Idealize.ShloMosaic.Ideal.ofBits .f32 0x41100000#32) :=
    congrArg (fun x => Idealize.ShloMosaic.Ideal.div x (Idealize.ShloMosaic.Ideal.ofBits .f32 0x41100000#32)) (sum_window (bits_at hy) b r c)
  rw [e, number, d, Consts.fourFifths, Consts.nine]
  exact if_congr (mean_iff _ _ _) rfl rfl

theorem mask_at (b : Fin 16) (r c : Fin 1024) : mask y (ix4 b 0 r c) = if Hit (v b) r c then 1#1 else 0#1 := by
  have e : mask y (ix4 b 0 r c) = BitVec.ofBool (decide (Idealize.ShloMosaic.Ideal.ofBits .f32 0x3F000000#32 < marks y (ix4 b 0 r c))) := rfl
  rw [e, marks_at hy, Consts.half]
  have h1 : ((1 / 2 : ℝ) : EReal) < 1 := by exact_mod_cast (by norm_num : (1 / 2 : ℝ) < 1)
  have h0 : ¬ ((1 / 2 : ℝ) : EReal) < 0 := by
    rw [not_lt]
    exact_mod_cast (by norm_num : (0 : ℝ) ≤ 1 / 2)
  split
  · simp only [h1, decide_true]; rfl
  · simp only [h0, decide_false]; rfl

end Cert.ReferenceIdeal.Verdict

end
-- ==== Proof.Plain.lean ====
/-
  The reference program's two result arrays after a run, as functions of the image array, when its weights are the
  filter.
-/
module

public import proofs.«01_k».proof.Proof.Verdict
public import proofs.«01_k».proof.Proof.Arrays
public import proofs.«01_k».proof.Proof.Gen.ReferenceIdeal.Run

@[expose] public section

set_option maxRecDepth 16384

noncomputable section

namespace Cert.ReferenceIdeal.Plain

open Cert.ReferenceIdeal Cert.ReferenceIdeal.Gen Cert.ReferenceIdeal.Value Cert.ReferenceIdeal.Windows Cert.ReferenceIdeal.Layers Cert.ReferenceIdeal.Verdict Cert.Stencil
open Cert.KernelIdeal.Arrays (imageOf G1 G3 HitAt)
open Idealize.ShloMosaic Idealize.ShloMosaic.TcCoe Idealize.SL.Sem Idealize.ShloMosaic.StableHlo
open scoped Classical

variable (V : Valuation τ sig (Elt Ideal))

/-- The image array. -/
abbrev images : Arr := V (Proc.devRef .tc main_arg0)
/-- The weights. -/
abbrev weights : Weights := V (Proc.devRef .tc main_arg1)

theorem first : res_main_v0 V = padded (images V) := rfl

theorem second : res_main_v298 V = padded (stage (weights V) (images V)) := by
  unfold stage
  rw [← first]
  rfl

theorem third : res_main_v596 V = padded (stage (weights V) (stage (weights V) (images V))) := by
  rw [stage, ← second]
  rfl

theorem fourth : res_main_v894 V = padded (stage (weights V) (stage (weights V) (stage (weights V) (images V)))) := by
  rw [stage, ← third]
  rfl

/-- The fourth layer. -/
def last : Arr := (stage (weights V))^[4] (images V)

theorem last_eq : last V = peaks (sums (weights V) (res_main_v894 V)) := by
  rw [fourth]
  rfl

/-- Stages follow layers. -/
theorem stages {k : Weights} (hk : ∀ i j : Fin 7, k (ix4 0 0 i j) = filter i j) (y : Arr) :
    ∀ n : ℕ, Holds ((stage k)^[n] y) fun b => Stencil.layer^[n] (imageOf y b)
  | 0 => fun b r c => (plane_at (fun r c => y (ix4 b 0 r c)) r c).symm
  | n + 1 => by
    simp only [Function.iterate_succ_apply']
    exact stage_at hk (stages hk y n)

/-- The first result is the kernel's. -/
theorem marks_eq {k : Weights} (hk : ∀ i j : Fin 7, k (ix4 0 0 i j) = filter i j) (y : Arr) : marks ((stage k)^[4] y) = G1 y := by
  funext i
  rw [idx_eq i]
  exact marks_at (stages hk y 4) _ _ _

/-- The second result is the kernel's. -/
theorem mask_eq {k : Weights} (hk : ∀ i j : Fin 7, k (ix4 0 0 i j) = filter i j) (y : Arr) : mask ((stage k)^[4] y) = G3 y := by
  funext i
  rw [idx_eq i]
  exact mask_at (stages hk y 4) _ _ _

theorem run (m : (ℓ : Loc nD τ sig) → Buf (Elt Ideal) ℓ) (ρ : Dev nD → PrngReg)
    (hk : ∀ (c : Dev nD) (i j : Fin 7), (m ((c.tc : Thread nD τ).loc main_arg1) : Weights) (ix4 0 0 i j) = filter i j) :
    θ_run (defs (F := Ideal)) (onTc (τ := τ) (main (F := Ideal))) ⟨m, fun _ => 0, ρ⟩ fun r => ∀ c : Dev nD,
      r.2.mem ((c.tc : Thread nD τ).loc main_v1201) = G1 (m ((c.tc : Thread nD τ).loc main_arg0))
      ∧ r.2.mem ((c.tc : Thread nD τ).loc main_v1203) = G3 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => by
    have e := last_eq (launchContents m c)
    refine ⟨(h c).1.trans ?_, (h c).2.1.trans ?_, (h c).2.2.1, (h c).2.2.2⟩
    · refine Eq.trans ?_ (marks_eq (hk c) _)
      exact (congrArg marks e).symm
    · refine Eq.trans ?_ (mask_eq (hk c) _)
      exact (congrArg mask e).symm) (Value.run m ρ)

end Cert.ReferenceIdeal.Plain

end
-- ==== Proof.Given.lean ====
/-
  What the precondition says: every entry of the image array is a real number, and the weights are the filter.
-/
module

public import proofs.«01_k».proof.Pre_given
public import proofs.«01_k».proof.Proof.Consts
public import proofs.«01_k».proof.Proof.Count
public import Idealize.ShloMosaic.Lib.ReduceAll
public import Idealize.ShloMosaic.Lib.Pointwise

@[expose] public section

set_option maxRecDepth 16384

noncomputable section

namespace Cert.Pre_given.Meaning

open Cert.Pre_given Cert.Stencil
open Idealize.ShloMosaic

/-- The shapes of the precondition's operations fit. -/
instance facts : Cert.Pre_given.Facts where
  bcast_S_S16x1x1024x1024 := by decide
  reducesTo_S16x1x1024x1024_S_d0_1_2_3 := by decide
  h_S_ := by decide
  reducesTo_S1x1x7x7_S_d0_1_2_3 := by decide

theorem one_of_ofBool {b : Bool} (h : BitVec.ofBool b = 1#1) : b = true := by
  cases b
  · exact absurd h (by decide)
  · rfl

/-- A number whose absolute value is less than infinity is real. -/
theorem real_of_abs {x : EReal} (h : max x (-x) < ⊤) : ∃ g : ℝ, x = (g : EReal) := by
  refine real_of_ne (fun e => ?_) (fun e => ?_) <;> · subst e; simp at h

/-- The table's words denote the filter's entries. -/
theorem table : ∀ i j : Fin 7, (Idealize.ShloMosaic.Ideal.ofBits .f32 (lit0 (S1x1x7x7.rowMajor (ix4 0 0 i j))) : EReal) = filter i j := by
  have z : (Idealize.ShloMosaic.Ideal.ofBits .f32 0x00000000#32 : EReal) = 0 := Ideal.ofBits_zero_f32
  have v : ∀ i j : Fin 7, (S1x1x7x7.rowMajor (ix4 0 0 i j)).val = i.val * 7 + j.val := by decide +kernel
  intro i j
  have e : S1x1x7x7.rowMajor (ix4 0 0 i j) = (⟨i.val * 7 + j.val, by omega⟩ : Fin 49) := Fin.ext (v i j)
  rw [e]
  fin_cases i <;> fin_cases j <;>
    first
    | exact z
    | exact Consts.one24
    | exact Consts.eighth
    | exact Consts.seven24.trans (EReal.coe_neg _)
    | exact Consts.negOne.trans (by simp [filter])

variable {x : FVec Ideal S16x1x1024x1024 .f32} {k : FVec Ideal S1x1x7x7 .f32} (h : fn (F := Ideal) x k = fun _ => 1#1)
include h

theorem real (i : S16x1x1024x1024.Idx) : ∃ g : ℝ, x i = (g : EReal) := by
  have e := (IntOp.andi_eq_one.1 (congrFun h (Shape.Idx.first (by decide)))).1
  haveI : Subsingleton S_.Idx := ⟨fun a b => funext fun n => n.elim0⟩
  have e' : BitVec.ofBool (decide (max (x i) (-(x i)) < Idealize.ShloMosaic.Ideal.ofBits .f32 0x7F800000#32)) = 1#1 := Host.reduce_andi_all _ _ _ _ _ e i
  have d := of_decide_eq_true (one_of_ofBool e')
  rw [Consts.posInf] at d
  exact real_of_abs d

theorem weights (i j : Fin 7) : k (ix4 0 0 i j) = filter i j := by
  have e := (IntOp.andi_eq_one.1 (congrFun h (Shape.Idx.first (by decide)))).2
  haveI : Subsingleton S_.Idx := ⟨fun a b => funext fun n => n.elim0⟩
  have e' : BitVec.ofBool (decide (k (ix4 0 0 i j) = Idealize.ShloMosaic.Ideal.ofBits .f32 (lit0 (S1x1x7x7.rowMajor (ix4 0 0 i j))))) = 1#1 :=
    Host.reduce_andi_all _ _ _ _ _ e (ix4 0 0 i j)
  exact (of_decide_eq_true (one_of_ofBool e')).trans (table i j)

end Cert.Pre_given.Meaning

end
-- ==== Proof.lean ====
module

public import proofs.«01_k».proof.Defs
public import proofs.«01_k».proof.Proof.FrameK
public import proofs.«01_k».proof.Proof.FrameKI
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Arrays
public import proofs.«01_k».proof.Proof.Plain
public import proofs.«01_k».proof.Proof.Given
public import Idealize.ShloMosaic.Lib.Quiescent

@[expose] public section

open Idealize.ShloMosaic Idealize.ShloMosaic.TcCoe Idealize.SL.Sem

/-- The reference runs, leaves its arguments unchanged, and has no counters. -/
theorem Cert.reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.2.1, (h c).2.2.2⟩, sem_eq_zero_of_no_sems (by decide) r.2⟩)
    (Cert.ReferenceIdeal.Value.run m g)

/-- The named constants stand for their printed words. -/
theorem Cert.preserves_proved : Cert.preserves_Kernel_KernelIdeal :=
  ⟨IdealRules.named_const.statement Cert.KernelIdeal.κ "w1" .f32 0x3D2B0000#32 ((11184811 / 268435456 : ℝ) : EReal) rfl,
    IdealRules.named_const.statement Cert.KernelIdeal.κ "w7" .f32 0x3E950000#32 ((9786709 / 33554432 : ℝ) : EReal) rfl,
    IdealRules.named_const.statement Cert.KernelIdeal.κ "neg_inf" .f32 0xF149F2CA#32 ⊥ rfl⟩

/-- From a finite image and the filter's weights the kernel and the reference leave the same two arrays. -/
theorem Cert.algebraic_proved : Cert.algebraic_KernelIdeal_ReferenceIdeal_pre_given := fun m g m' g' h e =>
  have real : ∀ c b, Cert.Stencil.Finite (Cert.KernelIdeal.Arrays.imageOf (Cert.KernelIdeal.Arrays.input m c) b) := fun c _ =>
    Cert.Stencil.plane_finite fun _ _ => Cert.Pre_given.Meaning.real (h c) _
  ⟨fun c => Cert.KernelIdeal.Arrays.G1 (Cert.KernelIdeal.Arrays.input m c), fun c => Cert.KernelIdeal.Arrays.G3 (Cert.KernelIdeal.Arrays.input m c),
    Cert.KernelIdeal.Arrays.run m g real,
    (θ_run _ _ _).mono (fun _ r c => ⟨(r c).1.trans (congrArg Cert.KernelIdeal.Arrays.G1 (e c).1), (r c).2.1.trans (congrArg Cert.KernelIdeal.Arrays.G3 (e c).1),
        (r c).2.2.1, (r c).2.2.2⟩)
      (Cert.ReferenceIdeal.Plain.run m' g' fun c i j => (congrFun (e c).2 _).trans (Cert.Pre_given.Meaning.weights (h c) i j))⟩

theorem Cert.Proof.claim : Cert.Claim :=
  ⟨Cert.Kernel.Gen.facts, Cert.KernelIdeal.Gen.facts, Cert.ReferenceIdeal.Gen.facts, Cert.Pre_given.Meaning.facts,
    fun m ρ _ => Cert.Kernel.Run.frame m ρ, fun m ρ _ => Cert.KernelIdeal.Run.frame m ρ, fun m ρ _ => Cert.KernelIdeal.Run.frame m ρ,
    fun m ρ _ => Cert.reference_frame m ρ, fun m ρ _ => Cert.reference_frame m ρ, Cert.preserves_proved, Cert.algebraic_proved⟩

end
